-- ==== Defs.lean ====
def Pre_Kernel [hPre_adapters_exist : Cert.Pre_adapters_exist.Facts] (m : (ℓ : Loc Cert.Kernel.nD Cert.Kernel.τ Cert.Kernel.sig) → Buf (Elt Bits) ℓ) : Prop :=
  ∀ c : Dev Cert.Kernel.nD,
    (Cert.Pre_adapters_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_adapters_exist : Cert.Pre_adapters_exist.Facts] (m : (ℓ : Loc Cert.KernelIdeal.nD Cert.KernelIdeal.τ Cert.KernelIdeal.sig) → Buf (Elt Ideal) ℓ) : Prop :=
  ∀ c : Dev Cert.KernelIdeal.nD,
    (Cert.Pre_adapters_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_adapters_exist [hPre_adapters_exist : Cert.Pre_adapters_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_adapters_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_adapters_exist : Cert.Pre_adapters_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_adapters_exist : Cert.Pre_adapters_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_adapters_exist [hReferenceIdeal : Cert.ReferenceIdeal.Facts] [hPre_adapters_exist : Cert.Pre_adapters_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_adapters_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_adapters_exist : Cert.Pre_adapters_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v337) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_v329) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_adapters_exist : Cert.Pre_adapters_exist.Facts),
    quiescent_Kernel (hKernel := hKernel) (hPre_adapters_exist := hPre_adapters_exist)
    ∧ quiescent_KernelIdeal (hKernelIdeal := hKernelIdeal) (hPre_adapters_exist := hPre_adapters_exist)
    ∧ quiescent_ReferenceIdeal (hReferenceIdeal := hReferenceIdeal)
    ∧ quiescent_ReferenceIdeal_pre_adapters_exist (hReferenceIdeal := hReferenceIdeal) (hPre_adapters_exist := hPre_adapters_exist)
    ∧ preserves_Kernel_KernelIdeal
    ∧ algebraic_KernelIdeal_ReferenceIdeal (hKernelIdeal := hKernelIdeal) (hReferenceIdeal := hReferenceIdeal) (hPre_adapters_exist := hPre_adapters_exist)
-- ==== Pre_adapters_exist.lean ====
abbrev S12x1x3584 : Shape := ⟨3, ![12, 1, 3584]⟩
abbrev S12 : Shape := ⟨1, ![12]⟩
abbrev S448x37888 : Shape := ⟨2, ![448, 37888]⟩
abbrev S28x37888 : Shape := ⟨2, ![28, 37888]⟩
abbrev S2368x3584 : Shape := ⟨2, ![2368, 3584]⟩
abbrev S148x3584 : Shape := ⟨2, ![148, 3584]⟩
abbrev S5x3584x128 : Shape := ⟨3, ![5, 3584, 128]⟩
abbrev S5x2x64x18944 : Shape := ⟨4, ![5, 2, 64, 18944]⟩
abbrev S5x18944x64 : Shape := ⟨3, ![5, 18944, 64]⟩
abbrev S5x64x3584 : Shape := ⟨3, ![5, 64, 3584]⟩
abbrev S5 : Shape := ⟨1, ![5]⟩
abbrev S_ : Shape := ⟨0, ![]⟩

class Facts : Prop where
  bcast_S_S12 : S_.BroadcastsInDim S12 (![] : Fin 0 → Fin S12.rank)

variable [Facts]

def fn {F : FTy → Type} [FloatOps F] (main_arg0 : FVec F S12x1x3584 .bf16) (main_arg1 : IVec S12 32) (main_arg2 : IVec S448x37888 32) (main_arg3 : FVec F S28x37888 .bf16) (main_arg4 : IVec S2368x3584 32) (main_arg5 : FVec F S148x3584 .bf16) (main_arg6 : FVec F S5x3584x128 .bf16) (main_arg7 : FVec F S5x2x64x18944 .bf16) (main_arg8 : FVec F S5x18944x64 .bf16) (main_arg9 : FVec F S5x64x3584 .bf16) (main_arg10 : FVec F S5 .f32) : IVec S12 1 :=
  let main_c : IVec S_ 32 := constantI S_ 32 0#32
  let main_v0 : IVec S12 32 := broadcastInDim S12 ![] bcast_S_S12 main_c
  let main_v1 : IVec S12 1 := cmpi .sge main_arg1 main_v0
  let main_c_0 : IVec S_ 32 := constantI S_ 32 5#32
  let main_v2 : IVec S12 32 := broadcastInDim S12 ![] bcast_S_S12 main_c_0
  let main_v3 : IVec S12 1 := cmpi .slt main_arg1 main_v2
  let main_v4 : IVec S12 1 := andi main_v1 main_v3
  main_v4
-- ==== Kernel.lean ====
abbrev S12x1x3584 : Shape := ⟨3, ![12, 1, 3584]⟩
abbrev S12 : Shape := ⟨1, ![12]⟩
abbrev S448x37888 : Shape := ⟨2, ![448, 37888]⟩
abbrev S28x37888 : Shape := ⟨2, ![28, 37888]⟩
abbrev S2368x3584 : Shape := ⟨2, ![2368, 3584]⟩
abbrev S148x3584 : Shape := ⟨2, ![148, 3584]⟩
abbrev S5x3584x128 : Shape := ⟨3, ![5, 3584, 128]⟩
abbrev S5x2x64x18944 : Shape := ⟨4, ![5, 2, 64, 18944]⟩
abbrev S5x18944x64 : Shape := ⟨3, ![5, 18944, 64]⟩
abbrev S5x64x3584 : Shape := ⟨3, ![5, 64, 3584]⟩
abbrev S5 : Shape := ⟨1, ![5]⟩
abbrev S12x3584 : Shape := ⟨2, ![12, 3584]⟩
abbrev S5x64x18944 : Shape := ⟨3, ![5, 64, 18944]⟩
abbrev S_ : Shape := ⟨0, ![]⟩
abbrev S152x3584 : Shape := ⟨2, ![152, 3584]⟩
abbrev S12x18944 : Shape := ⟨2, ![12, 18944]⟩
abbrev S12x128 : Shape := ⟨2, ![12, 128]⟩
abbrev S12x64 : Shape := ⟨2, ![12, 64]⟩
abbrev S448x512 : Shape := ⟨2, ![448, 512]⟩
abbrev S28x512 : Shape := ⟨2, ![28, 512]⟩
abbrev S64x3584 : Shape := ⟨2, ![64, 3584]⟩
abbrev S5x2x64x512 : Shape := ⟨4, ![5, 2, 64, 512]⟩
abbrev S5x64x512 : Shape := ⟨3, ![5, 64, 512]⟩
abbrev S12x512 : Shape := ⟨2, ![12, 512]⟩
abbrev S16x320 : Shape := ⟨2, ![16, 320]⟩
abbrev S16x3584 : Shape := ⟨2, ![16, 3584]⟩
abbrev S320x16 : Shape := ⟨2, ![320, 16]⟩
abbrev S16x128 : Shape := ⟨2, ![16, 128]⟩
abbrev S1 : Shape := ⟨1, ![1]⟩
abbrev S1x3584x128 : Shape := ⟨3, ![1, 3584, 128]⟩
abbrev S3584x128 : Shape := ⟨2, ![3584, 128]⟩
abbrev S16x384 : Shape := ⟨2, ![16, 384]⟩
abbrev S5x1x64x512 : Shape := ⟨4, ![5, 1, 64, 512]⟩
abbrev S320x512 : Shape := ⟨2, ![320, 512]⟩
abbrev S16x512 : Shape := ⟨2, ![16, 512]⟩
abbrev S16x256 : Shape := ⟨2, ![16, 256]⟩
abbrev S32x512 : Shape := ⟨2, ![32, 512]⟩
abbrev S2x512 : Shape := ⟨2, ![2, 512]⟩
abbrev S32x8x512 : Shape := ⟨3, ![32, 8, 512]⟩
abbrev S32x1x512 : Shape := ⟨3, ![32, 1, 512]⟩
abbrev S256x512 : Shape := ⟨2, ![256, 512]⟩
abbrev S2x128x512 : Shape := ⟨3, ![2, 128, 512]⟩
abbrev S2x1x512 : Shape := ⟨3, ![2, 1, 512]⟩
abbrev S8x3584 : Shape := ⟨2, ![8, 3584]⟩
abbrev S4x3584 : Shape := ⟨2, ![4, 3584]⟩
abbrev S32x3584 : Shape := ⟨2, ![32, 3584]⟩
abbrev S2x3584 : Shape := ⟨2, ![2, 3584]⟩
abbrev S32x8x3584 : Shape := ⟨3, ![32, 8, 3584]⟩
abbrev S32x1x3584 : Shape := ⟨3, ![32, 1, 3584]⟩
abbrev S256x3584 : Shape := ⟨2, ![256, 3584]⟩
abbrev S2x128x3584 : Shape := ⟨3, ![2, 128, 3584]⟩
abbrev S2x1x3584 : Shape := ⟨3, ![2, 1, 3584]⟩
abbrev S320x112 : Shape := ⟨2, ![320, 112]⟩
abbrev S320x128 : Shape := ⟨2, ![320, 128]⟩
abbrev S128x320 : Shape := ⟨2, ![128, 320]⟩
abbrev S16x64 : Shape := ⟨2, ![16, 64]⟩
abbrev S320x3584 : Shape := ⟨2, ![320, 3584]⟩

abbrev nBuf : Space → Nat
  | .hbm => 21
  | .vmem => 28
  | .smem => 2
  | _ => 0

abbrev bufTy : (tb : Table) → Fin (tcTables nBuf tb) → BufTy
  | .hbm, ⟨0, _⟩ => ⟨S12x1x3584, .bf16⟩
  | .hbm, ⟨1, _⟩ => ⟨S12, .i32⟩
  | .hbm, ⟨2, _⟩ => ⟨S448x37888, .i32⟩
  | .hbm, ⟨3, _⟩ => ⟨S28x37888, .bf16⟩
  | .hbm, ⟨4, _⟩ => ⟨S2368x3584, .i32⟩
  | .hbm, ⟨5, _⟩ => ⟨S148x3584, .bf16⟩
  | .hbm, ⟨6, _⟩ => ⟨S5x3584x128, .bf16⟩
  | .hbm, ⟨7, _⟩ => ⟨S5x2x64x18944, .bf16⟩
  | .hbm, ⟨8, _⟩ => ⟨S5x18944x64, .bf16⟩
  | .hbm, ⟨9, _⟩ => ⟨S5x64x3584, .bf16⟩
  | .hbm, ⟨10, _⟩ => ⟨S5, .f32⟩
  | .hbm, ⟨11, _⟩ => ⟨S12x3584, .bf16⟩
  | .hbm, ⟨12, _⟩ => ⟨S5x64x18944, .bf16⟩
  | .hbm, ⟨13, _⟩ => ⟨S148x3584, .f32⟩
  | .hbm, ⟨14, _⟩ => ⟨S_, .i32⟩
  | .hbm, ⟨15, _⟩ => ⟨S_, .f32⟩
  | .hbm, ⟨16, _⟩ => ⟨S152x3584, .f32⟩
  | .hbm, ⟨17, _⟩ => ⟨S12x3584, .bf16⟩
  | .hbm, ⟨18, _⟩ => ⟨S12x18944, .bf16⟩
  | .hbm, ⟨19, _⟩ => ⟨S12x128, .bf16⟩
  | .hbm, ⟨20, _⟩ => ⟨S12x64, .bf16⟩
  | .local _ .vmem, ⟨0, _⟩ => ⟨S12x3584, .bf16⟩
  | .local _ .vmem, ⟨1, _⟩ => ⟨S448x512, .i32⟩
  | .local _ .vmem, ⟨2, _⟩ => ⟨S448x512, .i32⟩
  | .local _ .vmem, ⟨3, _⟩ => ⟨S448x512, .i32⟩
  | .local _ .vmem, ⟨4, _⟩ => ⟨S448x512, .i32⟩
  | .local _ .vmem, ⟨5, _⟩ => ⟨S28x512, .bf16⟩
  | .local _ .vmem, ⟨6, _⟩ => ⟨S28x512, .bf16⟩
  | .local _ .vmem, ⟨7, _⟩ => ⟨S28x512, .bf16⟩
  | .local _ .vmem, ⟨8, _⟩ => ⟨S28x512, .bf16⟩
  | .local _ .vmem, ⟨9, _⟩ => ⟨S64x3584, .i32⟩
  | .local _ .vmem, ⟨10, _⟩ => ⟨S64x3584, .i32⟩
  | .local _ .vmem, ⟨11, _⟩ => ⟨S152x3584, .f32⟩
  | .local _ .vmem, ⟨12, _⟩ => ⟨S5x3584x128, .bf16⟩
  | .local _ .vmem, ⟨13, _⟩ => ⟨S5x2x64x512, .bf16⟩
  | .local _ .vmem, ⟨14, _⟩ => ⟨S5x2x64x512, .bf16⟩
  | .local _ .vmem, ⟨15, _⟩ => ⟨S5x64x512, .bf16⟩
  | .local _ .vmem, ⟨16, _⟩ => ⟨S5x64x512, .bf16⟩
  | .local _ .vmem, ⟨17, _⟩ => ⟨S5x64x3584, .bf16⟩
  | .local _ .vmem, ⟨18, _⟩ => ⟨S12x3584, .bf16⟩
  | .local _ .vmem, ⟨19, _⟩ => ⟨S12x512, .bf16⟩
  | .local _ .vmem, ⟨20, _⟩ => ⟨S12x512, .bf16⟩
  | .local _ .vmem, ⟨21, _⟩ => ⟨S12x128, .bf16⟩
  | .local _ .vmem, ⟨22, _⟩ => ⟨S12x64, .bf16⟩
  | .local _ .vmem, ⟨23, _⟩ => ⟨S16x320, .bf16⟩
  | .local _ .vmem, ⟨24, _⟩ => ⟨S16x320, .bf16⟩
  | .local _ .vmem, ⟨25, _⟩ => ⟨S16x3584, .f32⟩
  | .local _ .vmem, ⟨26, _⟩ => ⟨S320x16, .f32⟩
  | .local _ .vmem, ⟨27, _⟩ => ⟨S16x3584, .bf16⟩
  | .local _ .smem, ⟨0, _⟩ => ⟨S12, .i32⟩
  | .local _ .smem, ⟨1, _⟩ => ⟨S5, .f32⟩
  | _, _ => ⟨S12x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![37], ![false]⟩

def k0_off1 (v10 : BitVec 32) : Fin 1 → Nat :=
  let v11 : Index := Scalar.indexCast v10
  ![v11.toNat]

def k0_chk1 (v10 : BitVec 32) : Prop :=
  (∀ a, (k0_off1 v10) a + S1.size a ≤ S5.size a)
theorem k0_off1_inb : ∀ (v10 : BitVec 32) (k0_hw1 : k0_chk1 v10), ∀ a, (k0_off1 v10) a + S1.size a ≤ S5.size a := fun v10 k0_hw1 => k0_hw1

def k0_off2 (v22 : BitVec 32) : Fin 1 → Nat :=
  let v23 : Index := Scalar.indexCast v22
  ![v23.toNat]

def k0_chk2 (v22 : BitVec 32) : Prop :=
  (∀ a, (k0_off2 v22) a + S1.size a ≤ S5.size a)
theorem k0_off2_inb : ∀ (v22 : BitVec 32) (k0_hw2 : k0_chk2 v22), ∀ a, (k0_off2 v22) a + S1.size a ≤ S5.size a := fun v22 k0_hw2 => k0_hw2

def k0_off3 (v34 : BitVec 32) : Fin 1 → Nat :=
  let v35 : Index := Scalar.indexCast v34
  ![v35.toNat]

def k0_chk3 (v34 : BitVec 32) : Prop :=
  (∀ a, (k0_off3 v34) a + S1.size a ≤ S5.size a)
theorem k0_off3_inb : ∀ (v34 : BitVec 32) (k0_hw3 : k0_chk3 v34), ∀ a, (k0_off3 v34) a + S1.size a ≤ S5.size a := fun v34 k0_hw3 => k0_hw3

def k0_off4 (v46 : BitVec 32) : Fin 1 → Nat :=
  let v47 : Index := Scalar.indexCast v46
  ![v47.toNat]

def k0_chk4 (v46 : BitVec 32) : Prop :=
  (∀ a, (k0_off4 v46) a + S1.size a ≤ S5.size a)
theorem k0_off4_inb : ∀ (v46 : BitVec 32) (k0_hw4 : k0_chk4 v46), ∀ a, (k0_off4 v46) a + S1.size a ≤ S5.size a := fun v46 k0_hw4 => k0_hw4

def k0_off5 (v58 : BitVec 32) : Fin 1 → Nat :=
  let v59 : Index := Scalar.indexCast v58
  ![v59.toNat]

def k0_chk5 (v58 : BitVec 32) : Prop :=
  (∀ a, (k0_off5 v58) a + S1.size a ≤ S5.size a)
theorem k0_off5_inb : ∀ (v58 : BitVec 32) (k0_hw5 : k0_chk5 v58), ∀ a, (k0_off5 v58) a + S1.size a ≤ S5.size a := fun v58 k0_hw5 => k0_hw5

def k0_off6 (v70 : BitVec 32) : Fin 1 → Nat :=
  let v71 : Index := Scalar.indexCast v70
  ![v71.toNat]

def k0_chk6 (v70 : BitVec 32) : Prop :=
  (∀ a, (k0_off6 v70) a + S1.size a ≤ S5.size a)
theorem k0_off6_inb : ∀ (v70 : BitVec 32) (k0_hw6 : k0_chk6 v70), ∀ a, (k0_off6 v70) a + S1.size a ≤ S5.size a := fun v70 k0_hw6 => k0_hw6

def k0_off7 (v82 : BitVec 32) : Fin 1 → Nat :=
  let v83 : Index := Scalar.indexCast v82
  ![v83.toNat]

def k0_chk7 (v82 : BitVec 32) : Prop :=
  (∀ a, (k0_off7 v82) a + S1.size a ≤ S5.size a)
theorem k0_off7_inb : ∀ (v82 : BitVec 32) (k0_hw7 : k0_chk7 v82), ∀ a, (k0_off7 v82) a + S1.size a ≤ S5.size a := fun v82 k0_hw7 => k0_hw7

def k0_off8 (v94 : BitVec 32) : Fin 1 → Nat :=
  let v95 : Index := Scalar.indexCast v94
  ![v95.toNat]

def k0_chk8 (v94 : BitVec 32) : Prop :=
  (∀ a, (k0_off8 v94) a + S1.size a ≤ S5.size a)
theorem k0_off8_inb : ∀ (v94 : BitVec 32) (k0_hw8 : k0_chk8 v94), ∀ a, (k0_off8 v94) a + S1.size a ≤ S5.size a := fun v94 k0_hw8 => k0_hw8

def k0_off9 (v106 : BitVec 32) : Fin 1 → Nat :=
  let v107 : Index := Scalar.indexCast v106
  ![v107.toNat]

def k0_chk9 (v106 : BitVec 32) : Prop :=
  (∀ a, (k0_off9 v106) a + S1.size a ≤ S5.size a)
theorem k0_off9_inb : ∀ (v106 : BitVec 32) (k0_hw9 : k0_chk9 v106), ∀ a, (k0_off9 v106) a + S1.size a ≤ S5.size a := fun v106 k0_hw9 => k0_hw9

def k0_off10 (v118 : BitVec 32) : Fin 1 → Nat :=
  let v119 : Index := Scalar.indexCast v118
  ![v119.toNat]

def k0_chk10 (v118 : BitVec 32) : Prop :=
  (∀ a, (k0_off10 v118) a + S1.size a ≤ S5.size a)
theorem k0_off10_inb : ∀ (v118 : BitVec 32) (k0_hw10 : k0_chk10 v118), ∀ a, (k0_off10 v118) a + S1.size a ≤ S5.size a := fun v118 k0_hw10 => k0_hw10

def k0_off11 (v130 : BitVec 32) : Fin 1 → Nat :=
  let v131 : Index := Scalar.indexCast v130
  ![v131.toNat]

def k0_chk11 (v130 : BitVec 32) : Prop :=
  (∀ a, (k0_off11 v130) a + S1.size a ≤ S5.size a)
theorem k0_off11_inb : ∀ (v130 : BitVec 32) (k0_hw11 : k0_chk11 v130), ∀ a, (k0_off11 v130) a + S1.size a ≤ S5.size a := fun v130 k0_hw11 => k0_hw11

def k0_off12 (v142 : BitVec 32) : Fin 1 → Nat :=
  let v143 : Index := Scalar.indexCast v142
  ![v143.toNat]

def k0_chk12 (v142 : BitVec 32) : Prop :=
  (∀ a, (k0_off12 v142) a + S1.size a ≤ S5.size a)
theorem k0_off12_inb : ∀ (v142 : BitVec 32) (k0_hw12 : k0_chk12 v142), ∀ a, (k0_off12 v142) a + S1.size a ≤ S5.size a := fun v142 k0_hw12 => k0_hw12

def k0_mult1 (i : grid0.Coords) : BitVec 32 :=
  let arg0 : BitVec 32 := BitVec.ofNat 32 (i 0).val
  let c1_i32_260 : BitVec 32 := 1#32
  let v796 : BitVec 32 := Scalar.shrsi arg0 c1_i32_260
  let c8_i32_261 : BitVec 32 := 8#32
  let v797 : BitVec 32 := Scalar.muli v796 c8_i32_261
  v797
def k0_off13 (i : grid0.Coords) : Fin 2 → Nat :=
  let arg0 : BitVec 32 := BitVec.ofNat 32 (i 0).val
  let c1_i32_260 : BitVec 32 := 1#32
  let v796 : BitVec 32 := Scalar.shrsi arg0 c1_i32_260
  let c8_i32_261 : BitVec 32 := 8#32
  let v797 : BitVec 32 := Scalar.muli v796 c8_i32_261
  let v798 : BitVec 32 := v797
  let v799 : Index := Scalar.indexCast v798
  let c0_262 : Index := 0#32
  ![v799.toNat, 0]
def k0_cond2 (i : grid0.Coords) : BitVec 1 :=
  let arg0 : BitVec 32 := BitVec.ofNat 32 (i 0).val
  let c36_i32 : BitVec 32 := 36#32
  let v871 : BitVec 1 := Scalar.cmpi .eq arg0 c36_i32
  let v872 : BitVec 32 := Scalar.extui v871
  let c0_i32_293 : BitVec 32 := 0#32
  let v873 : BitVec 1 := Scalar.cmpi .ne v872 c0_i32_293
  v873

def k0_cond1 (i : grid0.Coords) : BitVec 1 :=
  let arg0 : BitVec 32 := BitVec.ofNat 32 (i 0).val
  let c0_i32_24 : BitVec 32 := 0#32
  let v147 : BitVec 1 := Scalar.cmpi .eq arg0 c0_i32_24
  let v148 : BitVec 32 := Scalar.extui v147
  let c0_i32_25 : BitVec 32 := 0#32
  let v149 : BitVec 1 := Scalar.cmpi .ne v148 c0_i32_25
  v149

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c37_i32 : BitVec 32 := 37#32
  let v0 : BitVec 32 := Scalar.addi arg0 c37_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c37_i32 : BitVec 32 := 37#32
  let v0 : BitVec 32 := Scalar.addi arg0 c37_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S448x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S448x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S28x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S28x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3584 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S152x3584 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x3584x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5x2x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S5x64x3584 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S12x3584 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S12x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S12x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S12x64 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S12x1x3584 : Shape := ⟨3, ![12, 1, 3584]⟩
abbrev S12 : Shape := ⟨1, ![12]⟩
abbrev S448x37888 : Shape := ⟨2, ![448, 37888]⟩
abbrev S28x37888 : Shape := ⟨2, ![28, 37888]⟩
abbrev S2368x3584 : Shape := ⟨2, ![2368, 3584]⟩
abbrev S148x3584 : Shape := ⟨2, ![148, 3584]⟩
abbrev S5x3584x128 : Shape := ⟨3, ![5, 3584, 128]⟩
abbrev S5x2x64x18944 : Shape := ⟨4, ![5, 2, 64, 18944]⟩
abbrev S5x18944x64 : Shape := ⟨3, ![5, 18944, 64]⟩
abbrev S5x64x3584 : Shape := ⟨3, ![5, 64, 3584]⟩
abbrev S5 : Shape := ⟨1, ![5]⟩
abbrev S12x3584 : Shape := ⟨2, ![12, 3584]⟩
abbrev S12x1 : Shape := ⟨2, ![12, 1]⟩
abbrev S1x5 : Shape := ⟨2, ![1, 5]⟩
abbrev S12x5 : Shape := ⟨2, ![12, 5]⟩
abbrev S_ : Shape := ⟨0, ![]⟩
abbrev S12x448 : Shape := ⟨2, ![12, 448]⟩
abbrev S28x16x37888 : Shape := ⟨3, ![28, 16, 37888]⟩
abbrev S28x1x37888 : Shape := ⟨3, ![28, 1, 37888]⟩
abbrev S12x37888 : Shape := ⟨2, ![12, 37888]⟩
abbrev S12x5x128 : Shape := ⟨3, ![12, 5, 128]⟩
abbrev S12x128 : Shape := ⟨2, ![12, 128]⟩
abbrev S12x5x1x1 : Shape := ⟨4, ![12, 5, 1, 1]⟩
abbrev S12x1x2x64 : Shape := ⟨4, ![12, 1, 2, 64]⟩
abbrev S12x5x2x64 : Shape := ⟨4, ![12, 5, 2, 64]⟩
abbrev S2x18944x12 : Shape := ⟨3, ![2, 18944, 12]⟩
abbrev S12x2x18944 : Shape := ⟨3, ![12, 2, 18944]⟩
abbrev S12x1x18944 : Shape := ⟨3, ![12, 1, 18944]⟩
abbrev S12x18944 : Shape := ⟨2, ![12, 18944]⟩
abbrev S12x2368 : Shape := ⟨2, ![12, 2368]⟩
abbrev S148x16x3584 : Shape := ⟨3, ![148, 16, 3584]⟩
abbrev S148x1x3584 : Shape := ⟨3, ![148, 1, 3584]⟩
abbrev S12x5x64 : Shape := ⟨3, ![12, 5, 64]⟩
abbrev S12x64 : Shape := ⟨2, ![12, 64]⟩
abbrev S12x5x1 : Shape := ⟨3, ![12, 5, 1]⟩
abbrev S12x1x64 : Shape := ⟨3, ![12, 1, 64]⟩

abbrev nBuf : Space → Nat
  | .hbm => 422
  | .vmem => 0
  | .smem => 0
  | _ => 0

abbrev hbmTy0_0 (i : Nat) : BufTy := match i % 128 with
  | 0 => ⟨S12x1x3584, .bf16⟩
  | 1 => ⟨S12, .i32⟩
  | 2 => ⟨S448x37888, .i32⟩
  | 3 => ⟨S28x37888, .bf16⟩
  | 4 => ⟨S2368x3584, .i32⟩
  | 5 => ⟨S148x3584, .bf16⟩
  | 6 => ⟨S5x3584x128, .bf16⟩
  | 7 => ⟨S5x2x64x18944, .bf16⟩
  | 8 => ⟨S5x18944x64, .bf16⟩
  | 9 => ⟨S5x64x3584, .bf16⟩
  | 10 => ⟨S5, .f32⟩
  | 11 => ⟨S12x3584, .bf16⟩
  | 12 => ⟨S12x1, .i32⟩
  | 13 => ⟨S1x5, .i32⟩
  | 14 => ⟨S12x5, .i32⟩
  | 15 => ⟨S12x5, .i32⟩
  | 16 => ⟨S12x5, .i1⟩
  | 17 => ⟨S12x5, .f32⟩
  | 18 => ⟨S12x5, .bf16⟩
  | 19 => ⟨S_, .i32⟩
  | 20 => ⟨S12, .i32⟩
  | 21 => ⟨S12, .i1⟩
  | 22 => ⟨S_, .i32⟩
  | 23 => ⟨S12, .i32⟩
  | 24 => ⟨S12, .i32⟩
  | 25 => ⟨S12, .i32⟩
  | 26 => ⟨S12x1, .i32⟩
  | 27 => ⟨S12, .f32⟩
  | 28 => ⟨S12x448, .bf16⟩
  | 29 => ⟨S_, .i32⟩
  | 30 => ⟨S448x37888, .i32⟩
  | 31 => ⟨S448x37888, .i32⟩
  | 32 => ⟨S_, .i32⟩
  | 33 => ⟨S448x37888, .i32⟩
  | 34 => ⟨S448x37888, .i32⟩
  | 35 => ⟨S_, .i32⟩
  | 36 => ⟨S448x37888, .i32⟩
  | 37 => ⟨S448x37888, .i1⟩
  | 38 => ⟨S_, .i32⟩
  | 39 => ⟨S448x37888, .i32⟩
  | 40 => ⟨S448x37888, .i32⟩
  | 41 => ⟨S448x37888, .i32⟩
  | 42 => ⟨S448x37888, .bf16⟩
  | 43 => ⟨S28x16x37888, .bf16⟩
  | 44 => ⟨S28x1x37888, .bf16⟩
  | 45 => ⟨S28x16x37888, .bf16⟩
  | 46 => ⟨S28x16x37888, .bf16⟩
  | 47 => ⟨S448x37888, .bf16⟩
  | 48 => ⟨S12x37888, .f32⟩
  | 49 => ⟨S12x448, .bf16⟩
  | 50 => ⟨S_, .i32⟩
  | 51 => ⟨S448x37888, .i32⟩
  | 52 => ⟨S448x37888, .i32⟩
  | 53 => ⟨S_, .i32⟩
  | 54 => ⟨S448x37888, .i32⟩
  | 55 => ⟨S448x37888, .i32⟩
  | 56 => ⟨S_, .i32⟩
  | 57 => ⟨S448x37888, .i32⟩
  | 58 => ⟨S448x37888, .i1⟩
  | 59 => ⟨S_, .i32⟩
  | 60 => ⟨S448x37888, .i32⟩
  | 61 => ⟨S448x37888, .i32⟩
  | 62 => ⟨S448x37888, .i32⟩
  | 63 => ⟨S448x37888, .bf16⟩
  | 64 => ⟨S28x16x37888, .bf16⟩
  | 65 => ⟨S28x1x37888, .bf16⟩
  | 66 => ⟨S28x16x37888, .bf16⟩
  | 67 => ⟨S28x16x37888, .bf16⟩
  | 68 => ⟨S448x37888, .bf16⟩
  | 69 => ⟨S12x37888, .f32⟩
  | 70 => ⟨S12x37888, .f32⟩
  | 71 => ⟨S12x448, .bf16⟩
  | 72 => ⟨S_, .i32⟩
  | 73 => ⟨S448x37888, .i32⟩
  | 74 => ⟨S448x37888, .i32⟩
  | 75 => ⟨S_, .i32⟩
  | 76 => ⟨S448x37888, .i32⟩
  | 77 => ⟨S448x37888, .i32⟩
  | 78 => ⟨S_, .i32⟩
  | 79 => ⟨S448x37888, .i32⟩
  | 80 => ⟨S448x37888, .i1⟩
  | 81 => ⟨S_, .i32⟩
  | 82 => ⟨S448x37888, .i32⟩
  | 83 => ⟨S448x37888, .i32⟩
  | 84 => ⟨S448x37888, .i32⟩
  | 85 => ⟨S448x37888, .bf16⟩
  | 86 => ⟨S28x16x37888, .bf16⟩
  | 87 => ⟨S28x1x37888, .bf16⟩
  | 88 => ⟨S28x16x37888, .bf16⟩
  | 89 => ⟨S28x16x37888, .bf16⟩
  | 90 => ⟨S448x37888, .bf16⟩
  | 91 => ⟨S12x37888, .f32⟩
  | 92 => ⟨S12x37888, .f32⟩
  | 93 => ⟨S12x448, .bf16⟩
  | 94 => ⟨S_, .i32⟩
  | 95 => ⟨S448x37888, .i32⟩
  | 96 => ⟨S448x37888, .i32⟩
  | 97 => ⟨S_, .i32⟩
  | 98 => ⟨S448x37888, .i32⟩
  | 99 => ⟨S448x37888, .i32⟩
  | 100 => ⟨S_, .i32⟩
  | 101 => ⟨S448x37888, .i32⟩
  | 102 => ⟨S448x37888, .i1⟩
  | 103 => ⟨S_, .i32⟩
  | 104 => ⟨S448x37888, .i32⟩
  | 105 => ⟨S448x37888, .i32⟩
  | 106 => ⟨S448x37888, .i32⟩
  | 107 => ⟨S448x37888, .bf16⟩
  | 108 => ⟨S28x16x37888, .bf16⟩
  | 109 => ⟨S28x1x37888, .bf16⟩
  | 110 => ⟨S28x16x37888, .bf16⟩
  | 111 => ⟨S28x16x37888, .bf16⟩
  | 112 => ⟨S448x37888, .bf16⟩
  | 113 => ⟨S12x37888, .f32⟩
  | 114 => ⟨S12x37888, .f32⟩
  | 115 => ⟨S12x448, .bf16⟩
  | 116 => ⟨S_, .i32⟩
  | 117 => ⟨S448x37888, .i32⟩
  | 118 => ⟨S448x37888, .i32⟩
  | 119 => ⟨S_, .i32⟩
  | 120 => ⟨S448x37888, .i32⟩
  | 121 => ⟨S448x37888, .i32⟩
  | 122 => ⟨S_, .i32⟩
  | 123 => ⟨S448x37888, .i32⟩
  | 124 => ⟨S448x37888, .i1⟩
  | 125 => ⟨S_, .i32⟩
  | 126 => ⟨S448x37888, .i32⟩
  | 127 => ⟨S448x37888, .i32⟩
  | _ => ⟨S12x1x3584, .bf16⟩

abbrev hbmTy0_1 (i : Nat) : BufTy := match i % 128 with
  | 0 => ⟨S448x37888, .i32⟩
  | 1 => ⟨S448x37888, .bf16⟩
  | 2 => ⟨S28x16x37888, .bf16⟩
  | 3 => ⟨S28x1x37888, .bf16⟩
  | 4 => ⟨S28x16x37888, .bf16⟩
  | 5 => ⟨S28x16x37888, .bf16⟩
  | 6 => ⟨S448x37888, .bf16⟩
  | 7 => ⟨S12x37888, .f32⟩
  | 8 => ⟨S12x37888, .f32⟩
  | 9 => ⟨S12x448, .bf16⟩
  | 10 => ⟨S_, .i32⟩
  | 11 => ⟨S448x37888, .i32⟩
  | 12 => ⟨S448x37888, .i32⟩
  | 13 => ⟨S_, .i32⟩
  | 14 => ⟨S448x37888, .i32⟩
  | 15 => ⟨S448x37888, .i32⟩
  | 16 => ⟨S_, .i32⟩
  | 17 => ⟨S448x37888, .i32⟩
  | 18 => ⟨S448x37888, .i1⟩
  | 19 => ⟨S_, .i32⟩
  | 20 => ⟨S448x37888, .i32⟩
  | 21 => ⟨S448x37888, .i32⟩
  | 22 => ⟨S448x37888, .i32⟩
  | 23 => ⟨S448x37888, .bf16⟩
  | 24 => ⟨S28x16x37888, .bf16⟩
  | 25 => ⟨S28x1x37888, .bf16⟩
  | 26 => ⟨S28x16x37888, .bf16⟩
  | 27 => ⟨S28x16x37888, .bf16⟩
  | 28 => ⟨S448x37888, .bf16⟩
  | 29 => ⟨S12x37888, .f32⟩
  | 30 => ⟨S12x37888, .f32⟩
  | 31 => ⟨S12x448, .bf16⟩
  | 32 => ⟨S_, .i32⟩
  | 33 => ⟨S448x37888, .i32⟩
  | 34 => ⟨S448x37888, .i32⟩
  | 35 => ⟨S_, .i32⟩
  | 36 => ⟨S448x37888, .i32⟩
  | 37 => ⟨S448x37888, .i32⟩
  | 38 => ⟨S_, .i32⟩
  | 39 => ⟨S448x37888, .i32⟩
  | 40 => ⟨S448x37888, .i1⟩
  | 41 => ⟨S_, .i32⟩
  | 42 => ⟨S448x37888, .i32⟩
  | 43 => ⟨S448x37888, .i32⟩
  | 44 => ⟨S448x37888, .i32⟩
  | 45 => ⟨S448x37888, .bf16⟩
  | 46 => ⟨S28x16x37888, .bf16⟩
  | 47 => ⟨S28x1x37888, .bf16⟩
  | 48 => ⟨S28x16x37888, .bf16⟩
  | 49 => ⟨S28x16x37888, .bf16⟩
  | 50 => ⟨S448x37888, .bf16⟩
  | 51 => ⟨S12x37888, .f32⟩
  | 52 => ⟨S12x37888, .f32⟩
  | 53 => ⟨S12x448, .bf16⟩
  | 54 => ⟨S_, .i32⟩
  | 55 => ⟨S448x37888, .i32⟩
  | 56 => ⟨S448x37888, .i32⟩
  | 57 => ⟨S_, .i32⟩
  | 58 => ⟨S448x37888, .i32⟩
  | 59 => ⟨S448x37888, .i32⟩
  | 60 => ⟨S_, .i32⟩
  | 61 => ⟨S448x37888, .i32⟩
  | 62 => ⟨S448x37888, .i1⟩
  | 63 => ⟨S_, .i32⟩
  | 64 => ⟨S448x37888, .i32⟩
  | 65 => ⟨S448x37888, .i32⟩
  | 66 => ⟨S448x37888, .i32⟩
  | 67 => ⟨S448x37888, .bf16⟩
  | 68 => ⟨S28x16x37888, .bf16⟩
  | 69 => ⟨S28x1x37888, .bf16⟩
  | 70 => ⟨S28x16x37888, .bf16⟩
  | 71 => ⟨S28x16x37888, .bf16⟩
  | 72 => ⟨S448x37888, .bf16⟩
  | 73 => ⟨S12x37888, .f32⟩
  | 74 => ⟨S12x37888, .f32⟩
  | 75 => ⟨S12x5x128, .f32⟩
  | 76 => ⟨S12x128, .f32⟩
  | 77 => ⟨S12x1, .f32⟩
  | 78 => ⟨S12x128, .f32⟩
  | 79 => ⟨S12x128, .f32⟩
  | 80 => ⟨S12x128, .bf16⟩
  | 81 => ⟨S12x5x1x1, .bf16⟩
  | 82 => ⟨S12x1x2x64, .bf16⟩
  | 83 => ⟨S12x5x2x64, .bf16⟩
  | 84 => ⟨S12x5x2x64, .bf16⟩
  | 85 => ⟨S12x5x2x64, .bf16⟩
  | 86 => ⟨S2x18944x12, .f32⟩
  | 87 => ⟨S12x2x18944, .f32⟩
  | 88 => ⟨S12x2x18944, .f32⟩
  | 89 => ⟨S12x2x18944, .f32⟩
  | 90 => ⟨S12x1x18944, .f32⟩
  | 91 => ⟨S12x18944, .f32⟩
  | 92 => ⟨S12x1x18944, .f32⟩
  | 93 => ⟨S12x18944, .f32⟩
  | 94 => ⟨S12x18944, .f32⟩
  | 95 => ⟨S12x18944, .f32⟩
  | 96 => ⟨S_, .f32⟩
  | 97 => ⟨S12x18944, .f32⟩
  | 98 => ⟨S12x18944, .f32⟩
  | 99 => ⟨S_, .f32⟩
  | 100 => ⟨S12x18944, .f32⟩
  | 101 => ⟨S12x18944, .f32⟩
  | 102 => ⟨S12x18944, .f32⟩
  | 103 => ⟨S12x18944, .f32⟩
  | 104 => ⟨S12x18944, .bf16⟩
  | 105 => ⟨S12x2368, .bf16⟩
  | 106 => ⟨S_, .i32⟩
  | 107 => ⟨S2368x3584, .i32⟩
  | 108 => ⟨S2368x3584, .i32⟩
  | 109 => ⟨S_, .i32⟩
  | 110 => ⟨S2368x3584, .i32⟩
  | 111 => ⟨S2368x3584, .i32⟩
  | 112 => ⟨S_, .i32⟩
  | 113 => ⟨S2368x3584, .i32⟩
  | 114 => ⟨S2368x3584, .i1⟩
  | 115 => ⟨S_, .i32⟩
  | 116 => ⟨S2368x3584, .i32⟩
  | 117 => ⟨S2368x3584, .i32⟩
  | 118 => ⟨S2368x3584, .i32⟩
  | 119 => ⟨S2368x3584, .bf16⟩
  | 120 => ⟨S148x16x3584, .bf16⟩
  | 121 => ⟨S148x1x3584, .bf16⟩
  | 122 => ⟨S148x16x3584, .bf16⟩
  | 123 => ⟨S148x16x3584, .bf16⟩
  | 124 => ⟨S2368x3584, .bf16⟩
  | 125 => ⟨S12x3584, .f32⟩
  | 126 => ⟨S12x2368, .bf16⟩
  | 127 => ⟨S_, .i32⟩
  | _ => ⟨S12x1x3584, .bf16⟩

abbrev hbmTy0_2 (i : Nat) : BufTy := match i % 128 with
  | 0 => ⟨S2368x3584, .i32⟩
  | 1 => ⟨S2368x3584, .i32⟩
  | 2 => ⟨S_, .i32⟩
  | 3 => ⟨S2368x3584, .i32⟩
  | 4 => ⟨S2368x3584, .i32⟩
  | 5 => ⟨S_, .i32⟩
  | 6 => ⟨S2368x3584, .i32⟩
  | 7 => ⟨S2368x3584, .i1⟩
  | 8 => ⟨S_, .i32⟩
  | 9 => ⟨S2368x3584, .i32⟩
  | 10 => ⟨S2368x3584, .i32⟩
  | 11 => ⟨S2368x3584, .i32⟩
  | 12 => ⟨S2368x3584, .bf16⟩
  | 13 => ⟨S148x16x3584, .bf16⟩
  | 14 => ⟨S148x1x3584, .bf16⟩
  | 15 => ⟨S148x16x3584, .bf16⟩
  | 16 => ⟨S148x16x3584, .bf16⟩
  | 17 => ⟨S2368x3584, .bf16⟩
  | 18 => ⟨S12x3584, .f32⟩
  | 19 => ⟨S12x3584, .f32⟩
  | 20 => ⟨S12x2368, .bf16⟩
  | 21 => ⟨S_, .i32⟩
  | 22 => ⟨S2368x3584, .i32⟩
  | 23 => ⟨S2368x3584, .i32⟩
  | 24 => ⟨S_, .i32⟩
  | 25 => ⟨S2368x3584, .i32⟩
  | 26 => ⟨S2368x3584, .i32⟩
  | 27 => ⟨S_, .i32⟩
  | 28 => ⟨S2368x3584, .i32⟩
  | 29 => ⟨S2368x3584, .i1⟩
  | 30 => ⟨S_, .i32⟩
  | 31 => ⟨S2368x3584, .i32⟩
  | 32 => ⟨S2368x3584, .i32⟩
  | 33 => ⟨S2368x3584, .i32⟩
  | 34 => ⟨S2368x3584, .bf16⟩
  | 35 => ⟨S148x16x3584, .bf16⟩
  | 36 => ⟨S148x1x3584, .bf16⟩
  | 37 => ⟨S148x16x3584, .bf16⟩
  | 38 => ⟨S148x16x3584, .bf16⟩
  | 39 => ⟨S2368x3584, .bf16⟩
  | 40 => ⟨S12x3584, .f32⟩
  | 41 => ⟨S12x3584, .f32⟩
  | 42 => ⟨S12x2368, .bf16⟩
  | 43 => ⟨S_, .i32⟩
  | 44 => ⟨S2368x3584, .i32⟩
  | 45 => ⟨S2368x3584, .i32⟩
  | 46 => ⟨S_, .i32⟩
  | 47 => ⟨S2368x3584, .i32⟩
  | 48 => ⟨S2368x3584, .i32⟩
  | 49 => ⟨S_, .i32⟩
  | 50 => ⟨S2368x3584, .i32⟩
  | 51 => ⟨S2368x3584, .i1⟩
  | 52 => ⟨S_, .i32⟩
  | 53 => ⟨S2368x3584, .i32⟩
  | 54 => ⟨S2368x3584, .i32⟩
  | 55 => ⟨S2368x3584, .i32⟩
  | 56 => ⟨S2368x3584, .bf16⟩
  | 57 => ⟨S148x16x3584, .bf16⟩
  | 58 => ⟨S148x1x3584, .bf16⟩
  | 59 => ⟨S148x16x3584, .bf16⟩
  | 60 => ⟨S148x16x3584, .bf16⟩
  | 61 => ⟨S2368x3584, .bf16⟩
  | 62 => ⟨S12x3584, .f32⟩
  | 63 => ⟨S12x3584, .f32⟩
  | 64 => ⟨S12x2368, .bf16⟩
  | 65 => ⟨S_, .i32⟩
  | 66 => ⟨S2368x3584, .i32⟩
  | 67 => ⟨S2368x3584, .i32⟩
  | 68 => ⟨S_, .i32⟩
  | 69 => ⟨S2368x3584, .i32⟩
  | 70 => ⟨S2368x3584, .i32⟩
  | 71 => ⟨S_, .i32⟩
  | 72 => ⟨S2368x3584, .i32⟩
  | 73 => ⟨S2368x3584, .i1⟩
  | 74 => ⟨S_, .i32⟩
  | 75 => ⟨S2368x3584, .i32⟩
  | 76 => ⟨S2368x3584, .i32⟩
  | 77 => ⟨S2368x3584, .i32⟩
  | 78 => ⟨S2368x3584, .bf16⟩
  | 79 => ⟨S148x16x3584, .bf16⟩
  | 80 => ⟨S148x1x3584, .bf16⟩
  | 81 => ⟨S148x16x3584, .bf16⟩
  | 82 => ⟨S148x16x3584, .bf16⟩
  | 83 => ⟨S2368x3584, .bf16⟩
  | 84 => ⟨S12x3584, .f32⟩
  | 85 => ⟨S12x3584, .f32⟩
  | 86 => ⟨S12x2368, .bf16⟩
  | 87 => ⟨S_, .i32⟩
  | 88 => ⟨S2368x3584, .i32⟩
  | 89 => ⟨S2368x3584, .i32⟩
  | 90 => ⟨S_, .i32⟩
  | 91 => ⟨S2368x3584, .i32⟩
  | 92 => ⟨S2368x3584, .i32⟩
  | 93 => ⟨S_, .i32⟩
  | 94 => ⟨S2368x3584, .i32⟩
  | 95 => ⟨S2368x3584, .i1⟩
  | 96 => ⟨S_, .i32⟩
  | 97 => ⟨S2368x3584, .i32⟩
  | 98 => ⟨S2368x3584, .i32⟩
  | 99 => ⟨S2368x3584, .i32⟩
  | 100 => ⟨S2368x3584, .bf16⟩
  | 101 => ⟨S148x16x3584, .bf16⟩
  | 102 => ⟨S148x1x3584, .bf16⟩
  | 103 => ⟨S148x16x3584, .bf16⟩
  | 104 => ⟨S148x16x3584, .bf16⟩
  | 105 => ⟨S2368x3584, .bf16⟩
  | 106 => ⟨S12x3584, .f32⟩
  | 107 => ⟨S12x3584, .f32⟩
  | 108 => ⟨S12x2368, .bf16⟩
  | 109 => ⟨S_, .i32⟩
  | 110 => ⟨S2368x3584, .i32⟩
  | 111 => ⟨S2368x3584, .i32⟩
  | 112 => ⟨S_, .i32⟩
  | 113 => ⟨S2368x3584, .i32⟩
  | 114 => ⟨S2368x3584, .i32⟩
  | 115 => ⟨S_, .i32⟩
  | 116 => ⟨S2368x3584, .i32⟩
  | 117 => ⟨S2368x3584, .i1⟩
  | 118 => ⟨S_, .i32⟩
  | 119 => ⟨S2368x3584, .i32⟩
  | 120 => ⟨S2368x3584, .i32⟩
  | 121 => ⟨S2368x3584, .i32⟩
  | 122 => ⟨S2368x3584, .bf16⟩
  | 123 => ⟨S148x16x3584, .bf16⟩
  | 124 => ⟨S148x1x3584, .bf16⟩
  | 125 => ⟨S148x16x3584, .bf16⟩
  | 126 => ⟨S148x16x3584, .bf16⟩
  | 127 => ⟨S2368x3584, .bf16⟩
  | _ => ⟨S12x1x3584, .bf16⟩

abbrev hbmTy0_3 (i : Nat) : BufTy := match i % 128 with
  | 0 => ⟨S12x3584, .f32⟩
  | 1 => ⟨S12x3584, .f32⟩
  | 2 => ⟨S12x2368, .bf16⟩
  | 3 => ⟨S_, .i32⟩
  | 4 => ⟨S2368x3584, .i32⟩
  | 5 => ⟨S2368x3584, .i32⟩
  | 6 => ⟨S_, .i32⟩
  | 7 => ⟨S2368x3584, .i32⟩
  | 8 => ⟨S2368x3584, .i32⟩
  | 9 => ⟨S_, .i32⟩
  | 10 => ⟨S2368x3584, .i32⟩
  | 11 => ⟨S2368x3584, .i1⟩
  | 12 => ⟨S_, .i32⟩
  | 13 => ⟨S2368x3584, .i32⟩
  | 14 => ⟨S2368x3584, .i32⟩
  | 15 => ⟨S2368x3584, .i32⟩
  | 16 => ⟨S2368x3584, .bf16⟩
  | 17 => ⟨S148x16x3584, .bf16⟩
  | 18 => ⟨S148x1x3584, .bf16⟩
  | 19 => ⟨S148x16x3584, .bf16⟩
  | 20 => ⟨S148x16x3584, .bf16⟩
  | 21 => ⟨S2368x3584, .bf16⟩
  | 22 => ⟨S12x3584, .f32⟩
  | 23 => ⟨S12x3584, .f32⟩
  | 24 => ⟨S12x5x64, .f32⟩
  | 25 => ⟨S12x64, .f32⟩
  | 26 => ⟨S12x1, .f32⟩
  | 27 => ⟨S12x64, .f32⟩
  | 28 => ⟨S12x64, .f32⟩
  | 29 => ⟨S12x64, .bf16⟩
  | 30 => ⟨S12x5x1, .bf16⟩
  | 31 => ⟨S12x1x64, .bf16⟩
  | 32 => ⟨S12x5x64, .bf16⟩
  | 33 => ⟨S12x5x64, .bf16⟩
  | 34 => ⟨S12x5x64, .bf16⟩
  | 35 => ⟨S12x3584, .f32⟩
  | 36 => ⟨S12x3584, .f32⟩
  | 37 => ⟨S12x3584, .bf16⟩
  | _ => ⟨S12x1x3584, .bf16⟩

abbrev hbmTy (i : Nat) : BufTy := match i / 128 with
  | 0 => hbmTy0_0 i
  | 1 => hbmTy0_1 i
  | 2 => hbmTy0_2 i
  | 3 => hbmTy0_3 i
  | _ => ⟨S12x1x3584, .bf16⟩

abbrev bufTy : (tb : Table) → Fin (tcTables nBuf tb) → BufTy
  | .hbm, ⟨i, _⟩ => hbmTy i
  | _, _ => ⟨S12x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_c_11 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_17 : Ref sig .tc := ⟨.hbm, 116, rfl⟩
abbrev main_v82 : Ref sig .tc := ⟨.hbm, 117, rfl⟩
abbrev main_v83 : Ref sig .tc := ⟨.hbm, 118, rfl⟩
abbrev main_c_18 : Ref sig .tc := ⟨.hbm, 119, rfl⟩
abbrev main_v84 : Ref sig .tc := ⟨.hbm, 120, rfl⟩
abbrev main_v85 : Ref sig .tc := ⟨.hbm, 121, rfl⟩
abbrev main_c_19 : Ref sig .tc := ⟨.hbm, 122, rfl⟩
abbrev main_v86 : Ref sig .tc := ⟨.hbm, 123, rfl⟩
abbrev main_v87 : Ref sig .tc := ⟨.hbm, 124, rfl⟩
abbrev main_c_20 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_21 : Ref sig .tc := ⟨.hbm, 138, rfl⟩
abbrev main_v100 : Ref sig .tc := ⟨.hbm, 139, rfl⟩
abbrev main_v101 : Ref sig .tc := ⟨.hbm, 140, rfl⟩
abbrev main_c_22 : Ref sig .tc := ⟨.hbm, 141, rfl⟩
abbrev main_v102 : Ref sig .tc := ⟨.hbm, 142, rfl⟩
abbrev main_v103 : Ref sig .tc := ⟨.hbm, 143, rfl⟩
abbrev main_c_23 : Ref sig .tc := ⟨.hbm, 144, rfl⟩
abbrev main_v104 : Ref sig .tc := ⟨.hbm, 145, rfl⟩
abbrev main_v105 : Ref sig .tc := ⟨.hbm, 146, rfl⟩
abbrev main_c_24 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_25 : Ref sig .tc := ⟨.hbm, 160, rfl⟩
abbrev main_v118 : Ref sig .tc := ⟨.hbm, 161, rfl⟩
abbrev main_v119 : Ref sig .tc := ⟨.hbm, 162, rfl⟩
abbrev main_c_26 : Ref sig .tc := ⟨.hbm, 163, rfl⟩
abbrev main_v120 : Ref sig .tc := ⟨.hbm, 164, rfl⟩
abbrev main_v121 : Ref sig .tc := ⟨.hbm, 165, rfl⟩
abbrev main_c_27 : Ref sig .tc := ⟨.hbm, 166, rfl⟩
abbrev main_v122 : Ref sig .tc := ⟨.hbm, 167, rfl⟩
abbrev main_v123 : Ref sig .tc := ⟨.hbm, 168, rfl⟩
abbrev main_c_28 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_c_29 : Ref sig .tc := ⟨.hbm, 182, rfl⟩
abbrev main_v136 : Ref sig .tc := ⟨.hbm, 183, rfl⟩
abbrev main_v137 : Ref sig .tc := ⟨.hbm, 184, rfl⟩
abbrev main_c_30 : Ref sig .tc := ⟨.hbm, 185, rfl⟩
abbrev main_v138 : Ref sig .tc := ⟨.hbm, 186, rfl⟩
abbrev main_v139 : Ref sig .tc := ⟨.hbm, 187, rfl⟩
abbrev main_c_31 : Ref sig .tc := ⟨.hbm, 188, rfl⟩
abbrev main_v140 : Ref sig .tc := ⟨.hbm, 189, rfl⟩
abbrev main_v141 : Ref sig .tc := ⟨.hbm, 190, rfl⟩
abbrev main_c_32 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst : Ref sig .tc := ⟨.hbm, 224, rfl⟩
abbrev main_v174 : Ref sig .tc := ⟨.hbm, 225, rfl⟩
abbrev main_v175 : Ref sig .tc := ⟨.hbm, 226, rfl⟩
abbrev main_cst_33 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_c_34 : Ref sig .tc := ⟨.hbm, 234, rfl⟩
abbrev main_v182 : Ref sig .tc := ⟨.hbm, 235, rfl⟩
abbrev main_v183 : Ref sig .tc := ⟨.hbm, 236, rfl⟩
abbrev main_c_35 : Ref sig .tc := ⟨.hbm, 237, rfl⟩
abbrev main_v184 : Ref sig .tc := ⟨.hbm, 238, rfl⟩
abbrev main_v185 : Ref sig .tc := ⟨.hbm, 239, rfl⟩
abbrev main_c_36 : Ref sig .tc := ⟨.hbm, 240, rfl⟩
abbrev main_v186 : Ref sig .tc := ⟨.hbm, 241, rfl⟩
abbrev main_v187 : Ref sig .tc := ⟨.hbm, 242, rfl⟩
abbrev main_c_37 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_c_38 : Ref sig .tc := ⟨.hbm, 255, rfl⟩
abbrev main_v199 : Ref sig .tc := ⟨.hbm, 256, rfl⟩
abbrev main_v200 : Ref sig .tc := ⟨.hbm, 257, rfl⟩
abbrev main_c_39 : Ref sig .tc := ⟨.hbm, 258, rfl⟩
abbrev main_v201 : Ref sig .tc := ⟨.hbm, 259, rfl⟩
abbrev main_v202 : Ref sig .tc := ⟨.hbm, 260, rfl⟩
abbrev main_c_40 : Ref sig .tc := ⟨.hbm, 261, rfl⟩
abbrev main_v203 : Ref sig .tc := ⟨.hbm, 262, rfl⟩
abbrev main_v204 : Ref sig .tc := ⟨.hbm, 263, rfl⟩
abbrev main_c_41 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_c_42 : Ref sig .tc := ⟨.hbm, 277, rfl⟩
abbrev main_v217 : Ref sig .tc := ⟨.hbm, 278, rfl⟩
abbrev main_v218 : Ref sig .tc := ⟨.hbm, 279, rfl⟩
abbrev main_c_43 : Ref sig .tc := ⟨.hbm, 280, rfl⟩
abbrev main_v219 : Ref sig .tc := ⟨.hbm, 281, rfl⟩
abbrev main_v220 : Ref sig .tc := ⟨.hbm, 282, rfl⟩
abbrev main_c_44 : Ref sig .tc := ⟨.hbm, 283, rfl⟩
abbrev main_v221 : Ref sig .tc := ⟨.hbm, 284, rfl⟩
abbrev main_v222 : Ref sig .tc := ⟨.hbm, 285, rfl⟩
abbrev main_c_45 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_c_46 : Ref sig .tc := ⟨.hbm, 299, rfl⟩
abbrev main_v235 : Ref sig .tc := ⟨.hbm, 300, rfl⟩
abbrev main_v236 : Ref sig .tc := ⟨.hbm, 301, rfl⟩
abbrev main_c_47 : Ref sig .tc := ⟨.hbm, 302, rfl⟩
abbrev main_v237 : Ref sig .tc := ⟨.hbm, 303, rfl⟩
abbrev main_v238 : Ref sig .tc := ⟨.hbm, 304, rfl⟩
abbrev main_c_48 : Ref sig .tc := ⟨.hbm, 305, rfl⟩
abbrev main_v239 : Ref sig .tc := ⟨.hbm, 306, rfl⟩
abbrev main_v240 : Ref sig .tc := ⟨.hbm, 307, rfl⟩
abbrev main_c_49 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_c_50 : Ref sig .tc := ⟨.hbm, 321, rfl⟩
abbrev main_v253 : Ref sig .tc := ⟨.hbm, 322, rfl⟩
abbrev main_v254 : Ref sig .tc := ⟨.hbm, 323, rfl⟩
abbrev main_c_51 : Ref sig .tc := ⟨.hbm, 324, rfl⟩
abbrev main_v255 : Ref sig .tc := ⟨.hbm, 325, rfl⟩
abbrev main_v256 : Ref sig .tc := ⟨.hbm, 326, rfl⟩
abbrev main_c_52 : Ref sig .tc := ⟨.hbm, 327, rfl⟩
abbrev main_v257 : Ref sig .tc := ⟨.hbm, 328, rfl⟩
abbrev main_v258 : Ref sig .tc := ⟨.hbm, 329, rfl⟩
abbrev main_c_53 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_c_54 : Ref sig .tc := ⟨.hbm, 343, rfl⟩
abbrev main_v271 : Ref sig .tc := ⟨.hbm, 344, rfl⟩
abbrev main_v272 : Ref sig .tc := ⟨.hbm, 345, rfl⟩
abbrev main_c_55 : Ref sig .tc := ⟨.hbm, 346, rfl⟩
abbrev main_v273 : Ref sig .tc := ⟨.hbm, 347, rfl⟩
abbrev main_v274 : Ref sig .tc := ⟨.hbm, 348, rfl⟩
abbrev main_c_56 : Ref sig .tc := ⟨.hbm, 349, rfl⟩
abbrev main_v275 : Ref sig .tc := ⟨.hbm, 350, rfl⟩
abbrev main_v276 : Ref sig .tc := ⟨.hbm, 351, rfl⟩
abbrev main_c_57 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_c_58 : Ref sig .tc := ⟨.hbm, 365, rfl⟩
abbrev main_v289 : Ref sig .tc := ⟨.hbm, 366, rfl⟩
abbrev main_v290 : Ref sig .tc := ⟨.hbm, 367, rfl⟩
abbrev main_c_59 : Ref sig .tc := ⟨.hbm, 368, rfl⟩
abbrev main_v291 : Ref sig .tc := ⟨.hbm, 369, rfl⟩
abbrev main_v292 : Ref sig .tc := ⟨.hbm, 370, rfl⟩
abbrev main_c_60 : Ref sig .tc := ⟨.hbm, 371, rfl⟩
abbrev main_v293 : Ref sig .tc := ⟨.hbm, 372, rfl⟩
abbrev main_v294 : Ref sig .tc := ⟨.hbm, 373, rfl⟩
abbrev main_c_61 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_v302 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_c_62 : Ref sig .tc := ⟨.hbm, 387, rfl⟩
abbrev main_v307 : Ref sig .tc := ⟨.hbm, 388, rfl⟩
abbrev main_v308 : Ref sig .tc := ⟨.hbm, 389, rfl⟩
abbrev main_c_63 : Ref sig .tc := ⟨.hbm, 390, rfl⟩
abbrev main_v309 : Ref sig .tc := ⟨.hbm, 391, rfl⟩
abbrev main_v310 : Ref sig .tc := ⟨.hbm, 392, rfl⟩
abbrev main_c_64 : Ref sig .tc := ⟨.hbm, 393, rfl⟩
abbrev main_v311 : Ref sig .tc := ⟨.hbm, 394, rfl⟩
abbrev main_v312 : Ref sig .tc := ⟨.hbm, 395, rfl⟩
abbrev main_c_65 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_v317 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩

abbrev nD : Nat := 1
abbrev τ : Topo := Topo.v7x

variable {F : FTy → Type} [FloatOps F]
-- ==== Proof.Adapters.lean ====
/-
  What the precondition says: every row's adapter number is one of the five adapters.
-/
module

public import proofs.«01_k».proof.Defs

@[expose] public section

set_option maxRecDepth 16384

noncomputable section

namespace Cert.Proof

open Idealize.ShloMosaic Idealize.ShloMosaic.TcCoe Idealize.SL.Sem

/-- Two one-bit words from Booleans meet as the Booleans do. -/
theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- The precondition read at one row: its adapter's number is below 5. -/
theorem word_lt {F : FTy → Type} [FloatOps F] [Cert.Pre_adapters_exist.Facts]
    {a0 : FVec F Pre_adapters_exist.S12x1x3584 .bf16} {a1 : IVec Pre_adapters_exist.S12 32}
    {a2 : IVec Pre_adapters_exist.S448x37888 32} {a3 : FVec F Pre_adapters_exist.S28x37888 .bf16}
    {a4 : IVec Pre_adapters_exist.S2368x3584 32} {a5 : FVec F Pre_adapters_exist.S148x3584 .bf16}
    {a6 : FVec F Pre_adapters_exist.S5x3584x128 .bf16} {a7 : FVec F Pre_adapters_exist.S5x2x64x18944 .bf16}
    {a8 : FVec F Pre_adapters_exist.S5x18944x64 .bf16} {a9 : FVec F Pre_adapters_exist.S5x64x3584 .bf16}
    {a10 : FVec F Pre_adapters_exist.S5 .f32}
    (h : Cert.Pre_adapters_exist.fn a0 a1 a2 a3 a4 a5 a6 a7 a8 a9 a10 = fun _ => 1#1) (y : Pre_adapters_exist.S12.Idx) :
    (a1 y).toNat < 5 := by
  have e := congrFun h y
  simp only [Pre_adapters_exist.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

end Cert.Proof

end
-- ==== Proof.Body.Shared.lean ====
/- What the three cases of the kernel body share: the branch conditions in closed form over the grid
   points, where each output window is idle, the staging and scratch buffers at a point, and the conditions `Hyps`
   that the body assumes of the adapter indices it reads. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 37 = 36 :=
  (fun t => by
    have ht : t.val < 37 := Nat.lt_of_lt_of_eq t.isLt N_0
    have e0 : (grid0.coords t 0).val = t.val / 1 % 37 := Pipeline.Grid.coords_val t 0 (by decide) rfl
    simp only [cond0_1, k0_cond2, e0]
    word_cmp
   : ∀ t : Fin grid0.N, cond0_1 (grid0.coords t) ↔ t.val % 37 = 36)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 14 is never idle (an output stored at every point, under no condition). -/
theorem liveAt0_14 : ∀ t : Fin cfg0.N, cfg0.idle 14 (grid0.coords t) = false := fun _ => rfl
/-- At the points of case A the printed configuration (`Cfg.idle`) calls output 13 idle: the case stores nothing into it. -/
theorem idleAt0_13_A : ∀ t : Fin cfg0.N, cond0_0 (grid0.coords t) → ¬cond0_1 (grid0.coords t) → cfg0.idle 13 (grid0.coords t) = true := by decide +kernel
/-- At the points of case A the pipeline does not write output 13's block back. -/
theorem noFlush0_13_A : ∀ t : Fin cfg0.N, cond0_0 (grid0.coords t) → ¬cond0_1 (grid0.coords t) → (cfg0.win 13).flush t = false := by decide +kernel
/-- At the points of case B the printed configuration (`Cfg.idle`) calls output 13 idle: the case stores nothing into it. -/
theorem idleAt0_13_B : ∀ t : Fin cfg0.N, ¬cond0_0 (grid0.coords t) → ¬cond0_1 (grid0.coords t) → cfg0.idle 13 (grid0.coords t) = true := by decide +kernel
/-- At the points of case B the pipeline does not write output 13's block back. -/
theorem noFlush0_13_B : ∀ t : Fin cfg0.N, ¬cond0_0 (grid0.coords t) → ¬cond0_1 (grid0.coords t) → (cfg0.win 13).flush t = false := by decide +kernel
/-- At the points of case C the printed configuration (`Cfg.idle`) calls output 13 live: the case stores into it. -/
theorem liveAt0_13_C : ∀ t : Fin cfg0.N, ¬cond0_0 (grid0.coords t) → cond0_1 (grid0.coords t) → cfg0.idle 13 (grid0.coords t) = false := by decide +kernel
/-- Whether output 15's buffer is FRESH at each position `1 ‥ N` — holds nothing the body stored since the region's entry or the
    last write-back (written back at the point before, or idle there and fresh before it) —, as a bitmask the classifier
    computed, bit `n` for position `n + 1`; position 0 is fresh. `freshTab0_15_step` checks it against the configuration's own
    step point by point and Lib/Pipeline/TableIdle.lean `Cfg.fresh_tab` makes it `Cfg.fresh` (`fresh0_15_eq`). -/
def freshTab0_15 : ℕ → Bool
  | 0 => true
  | n + 1 => (0x1000000000 : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
/-- At the points of case A the printed configuration (`Cfg.idle`) calls output 15 live: the case stores into it. -/
theorem liveAt0_15_A : ∀ t : Fin cfg0.N, cond0_0 (grid0.coords t) → ¬cond0_1 (grid0.coords t) → cfg0.idle 15 (grid0.coords t) = false := by decide +kernel
/-- At the points of case B the printed configuration (`Cfg.idle`) calls output 15 idle: the case stores nothing into it. -/
theorem idleAt0_15_B : ∀ t : Fin cfg0.N, ¬cond0_0 (grid0.coords t) → ¬cond0_1 (grid0.coords t) → cfg0.idle 15 (grid0.coords t) = true := by decide +kernel
/-- At the points of case B the pipeline does not write output 15's block back. -/
theorem noFlush0_15_B : ∀ t : Fin cfg0.N, ¬cond0_0 (grid0.coords t) → ¬cond0_1 (grid0.coords t) → (cfg0.win 15).flush t = false := by decide +kernel
/-- At the points of case C the printed configuration (`Cfg.idle`) calls output 15 idle: the case stores nothing into it. -/
theorem idleAt0_15_C : ∀ t : Fin cfg0.N, ¬cond0_0 (grid0.coords t) → cond0_1 (grid0.coords t) → cfg0.idle 15 (grid0.coords t) = true := by decide +kernel
/-- At the points of case C the pipeline writes output 15's block back. -/
theorem flushAt0_15_C : ∀ t : Fin cfg0.N, ¬cond0_0 (grid0.coords t) → cond0_1 (grid0.coords t) → (cfg0.win 15).flush t = true := by decide +kernel
/-- At the points of case C, which keeps output 15's prior contents (it stores nothing into it), the
    window's buffer is not FRESH: something was stored into it since the region's entry or its last write-back, idle points
    between or not (Lib/Pipeline/TableIdle.lean `Cfg.fresh`, by the table `freshTab0_15`). -/
theorem notFresh0_15_C : ∀ t : Fin cfg0.N, ¬cond0_0 (grid0.coords t) → cond0_1 (grid0.coords t) → cfg0.fresh 15 t.val = false := by
  intro t; rw [fresh0_15_eq t]; revert t; decide +kernel
/-- At the points of case A the printed configuration (`Cfg.idle`) calls output 16 idle: the case stores nothing into it. -/
theorem idleAt0_16_A : ∀ t : Fin cfg0.N, cond0_0 (grid0.coords t) → ¬cond0_1 (grid0.coords t) → cfg0.idle 16 (grid0.coords t) = true := by decide +kernel
/-- At the points of case A the pipeline does not write output 16's block back. -/
theorem noFlush0_16_A : ∀ t : Fin cfg0.N, cond0_0 (grid0.coords t) → ¬cond0_1 (grid0.coords t) → (cfg0.win 16).flush t = false := by decide +kernel
/-- At the points of case B the printed configuration (`Cfg.idle`) calls output 16 idle: the case stores nothing into it. -/
theorem idleAt0_16_B : ∀ t : Fin cfg0.N, ¬cond0_0 (grid0.coords t) → ¬cond0_1 (grid0.coords t) → cfg0.idle 16 (grid0.coords t) = true := by decide +kernel
/-- At the points of case B the pipeline does not write output 16's block back. -/
theorem noFlush0_16_B : ∀ t : Fin cfg0.N, ¬cond0_0 (grid0.coords t) → ¬cond0_1 (grid0.coords t) → (cfg0.win 16).flush t = false := by decide +kernel
/-- At the points of case C the printed configuration (`Cfg.idle`) calls output 16 live: the case stores into it. -/
theorem liveAt0_16_C : ∀ t : Fin cfg0.N, ¬cond0_0 (grid0.coords t) → cond0_1 (grid0.coords t) → cfg0.idle 16 (grid0.coords t) = false := by decide +kernel

/-! ## The kernel body on any staging memrefs: a subtype the run finds -/

/-- One staging buffer of output window 13, through which its contents are stated (`View.read_writes_of_cover`: the
    choice does not matter). -/
abbrev VO0_13 : View sig .tc .vmem S12x3584 .bf16 := (Memref.whole cc0_stg13_0 : Memref sig .tc .vmem S12x3584 .bf16).view
/-- One staging buffer of output window 14, through which its contents are stated (`View.read_writes_of_cover`: the
    choice does not matter). -/
abbrev VO0_14 : View sig .tc .vmem S12x512 .bf16 := (Memref.whole cc0_stg14_0 : Memref sig .tc .vmem S12x512 .bf16).view
/-- One staging buffer of output window 15, through which its contents are stated (`View.read_writes_of_cover`: the
    choice does not matter). -/
abbrev VO0_15 : View sig .tc .vmem S12x128 .bf16 := (Memref.whole cc0_stg15_0 : Memref sig .tc .vmem S12x128 .bf16).view
/-- One staging buffer of output window 16, through which its contents are stated (`View.read_writes_of_cover`: the
    choice does not matter). -/
abbrev VO0_16 : View sig .tc .vmem S12x64 .bf16 := (Memref.whole cc0_stg16_0 : Memref sig .tc .vmem S12x64 .bf16).view
/-- Each window's current staging memref at point `t`, spelled as the pipeline passes it (`bodyAt0`), and its wholeness. -/
abbrev ms0_0 (t : Fin cfg0.N) : Memref sig .tc .smem S12 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12x3584 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S448x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S448x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S28x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S28x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x3584 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S152x3584 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S5x3584x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5x2x64x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S5x64x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S5x64x3584 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x3584 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x512 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S12x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S12x64 .bf16 := win0_16.stage (cfg0.slots t 16)
abbrev hs0_16 (t : Fin cfg0.N) : (ms0_16 t).IsWhole := hstage0_16 ((cfg0.slots t 16).cast nbuf0_16)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; It is proved from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    k0_chk1 ((ms0_0 t).view.readAt (Elt F) (Rect.unit (s := S12) ![0] S1.size inb_S12_S1_0).toLoadRect ((hs0_0 t).unread (iblk m c 0 t)) (Shape.Idx.first (numel1_S1.symm ▸ Nat.one_pos)))
    ∧ k0_chk2 ((ms0_0 t).view.readAt (Elt F) (Rect.unit (s := S12) ![1] S1.size inb_S12_S1_1).toLoadRect ((hs0_0 t).unread (iblk m c 0 t)) (Shape.Idx.first (numel1_S1.symm ▸ Nat.one_pos)))
    ∧ k0_chk3 ((ms0_0 t).view.readAt (Elt F) (Rect.unit (s := S12) ![2] S1.size inb_S12_S1_2).toLoadRect ((hs0_0 t).unread (iblk m c 0 t)) (Shape.Idx.first (numel1_S1.symm ▸ Nat.one_pos)))
    ∧ k0_chk4 ((ms0_0 t).view.readAt (Elt F) (Rect.unit (s := S12) ![3] S1.size inb_S12_S1_3).toLoadRect ((hs0_0 t).unread (iblk m c 0 t)) (Shape.Idx.first (numel1_S1.symm ▸ Nat.one_pos)))
    ∧ k0_chk5 ((ms0_0 t).view.readAt (Elt F) (Rect.unit (s := S12) ![4] S1.size inb_S12_S1_4).toLoadRect ((hs0_0 t).unread (iblk m c 0 t)) (Shape.Idx.first (numel1_S1.symm ▸ Nat.one_pos)))
    ∧ k0_chk6 ((ms0_0 t).view.readAt (Elt F) (Rect.unit (s := S12) ![5] S1.size inb_S12_S1_5).toLoadRect ((hs0_0 t).unread (iblk m c 0 t)) (Shape.Idx.first (numel1_S1.symm ▸ Nat.one_pos)))
    ∧ k0_chk7 ((ms0_0 t).view.readAt (Elt F) (Rect.unit (s := S12) ![6] S1.size inb_S12_S1_6).toLoadRect ((hs0_0 t).unread (iblk m c 0 t)) (Shape.Idx.first (numel1_S1.symm ▸ Nat.one_pos)))
    ∧ k0_chk8 ((ms0_0 t).view.readAt (Elt F) (Rect.unit (s := S12) ![7] S1.size inb_S12_S1_7).toLoadRect ((hs0_0 t).unread (iblk m c 0 t)) (Shape.Idx.first (numel1_S1.symm ▸ Nat.one_pos)))
    ∧ k0_chk9 ((ms0_0 t).view.readAt (Elt F) (Rect.unit (s := S12) ![8] S1.size inb_S12_S1_8).toLoadRect ((hs0_0 t).unread (iblk m c 0 t)) (Shape.Idx.first (numel1_S1.symm ▸ Nat.one_pos)))
    ∧ k0_chk10 ((ms0_0 t).view.readAt (Elt F) (Rect.unit (s := S12) ![9] S1.size inb_S12_S1_9).toLoadRect ((hs0_0 t).unread (iblk m c 0 t)) (Shape.Idx.first (numel1_S1.symm ▸ Nat.one_pos)))
    ∧ k0_chk11 ((ms0_0 t).view.readAt (Elt F) (Rect.unit (s := S12) ![10] S1.size inb_S12_S1_10).toLoadRect ((hs0_0 t).unread (iblk m c 0 t)) (Shape.Idx.first (numel1_S1.symm ▸ Nat.one_pos)))
    ∧ k0_chk12 ((ms0_0 t).view.readAt (Elt F) (Rect.unit (s := S12) ![11] S1.size inb_S12_S1_11).toLoadRect ((hs0_0 t).unread (iblk m c 0 t)) (Shape.Idx.first (numel1_S1.symm ▸ Nat.one_pos)))

/-! Each conjunct of `Hyps` by name: its statement (`Hyps.pN`), a lemma citing it (`Hyps.cN`: what a run, or a
    statement over it, takes for that side condition), and `Hyps` built from one proof per conjunct (`Hyps.of`:
    what Proof.lean's `hyps_of_pre` applies). -/

/-- Conjunct 0 of `Hyps` at point `t`: the side condition `k0_chk1` the body assumes as `k0_hw1`. -/
abbrev Hyps.p0 (m : (ℓ : Loc nD τ sig) → Buf (Elt F) ℓ) (c : Dev nD) (t : Fin cfg0.N) : Prop :=
  k0_chk1 ((ms0_0 t).view.readAt (Elt F) (Rect.unit (s := S12) ![0] S1.size inb_S12_S1_0).toLoadRect ((hs0_0 t).unread (iblk m c 0 t)) (Shape.Idx.first (numel1_S1.symm ▸ Nat.one_pos)))
variable {m} in
theorem Hyps.c0 (hH : Hyps m) (c : Dev nD) (t : Fin cfg0.N) :
    k0_chk1 ((ms0_0 t).view.readAt (Elt F) (Rect.unit (s := S12) ![0] S1.size inb_S12_S1_0).toLoadRect ((hs0_0 t).unread (iblk m c 0 t)) (Shape.Idx.first (numel1_S1.symm ▸ Nat.one_pos))) := (hH c t).1
/-- Conjunct 1 of `Hyps` at point `t`: the side condition `k0_chk2` the body assumes as `k0_hw2`. -/
abbrev Hyps.p1 (m : (ℓ : Loc nD τ sig) → Buf (Elt F) ℓ) (c : Dev nD) (t : Fin cfg0.N) : Prop :=
  k0_chk2 ((ms0_0 t).view.readAt (Elt F) (Rect.unit (s := S12) ![1] S1.size inb_S12_S1_1).toLoadRect ((hs0_0 t).unread (iblk m c 0 t)) (Shape.Idx.first (numel1_S1.symm ▸ Nat.one_pos)))
variable {m} in
theorem Hyps.c1 (hH : Hyps m) (c : Dev nD) (t : Fin cfg0.N) :
    k0_chk2 ((ms0_0 t).view.readAt (Elt F) (Rect.unit (s := S12) ![1] S1.size inb_S12_S1_1).toLoadRect ((hs0_0 t).unread (iblk m c 0 t)) (Shape.Idx.first (numel1_S1.symm ▸ Nat.one_pos))) := (hH c t).2.1
/-- Conjunct 2 of `Hyps` at point `t`: the side condition `k0_chk3` the body assumes as `k0_hw3`. -/
abbrev Hyps.p2 (m : (ℓ : Loc nD τ sig) → Buf (Elt F) ℓ) (c : Dev nD) (t : Fin cfg0.N) : Prop :=
  k0_chk3 ((ms0_0 t).view.readAt (Elt F) (Rect.unit (s := S12) ![2] S1.size inb_S12_S1_2).toLoadRect ((hs0_0 t).unread (iblk m c 0 t)) (Shape.Idx.first (numel1_S1.symm ▸ Nat.one_pos)))
variable {m} in
theorem Hyps.c2 (hH : Hyps m) (c : Dev nD) (t : Fin cfg0.N) :
    k0_chk3 ((ms0_0 t).view.readAt (Elt F) (Rect.unit (s := S12) ![2] S1.size inb_S12_S1_2).toLoadRect ((hs0_0 t).unread (iblk m c 0 t)) (Shape.Idx.first (numel1_S1.symm ▸ Nat.one_pos))) := (hH c t).2.2.1
/-- Conjunct 3 of `Hyps` at point `t`: the side condition `k0_chk4` the body assumes as `k0_hw4`. -/
abbrev Hyps.p3 (m : (ℓ : Loc nD τ sig) → Buf (Elt F) ℓ) (c : Dev nD) (t : Fin cfg0.N) : Prop :=
  k0_chk4 ((ms0_0 t).view.readAt (Elt F) (Rect.unit (s := S12) ![3] S1.size inb_S12_S1_3).toLoadRect ((hs0_0 t).unread (iblk m c 0 t)) (Shape.Idx.first (numel1_S1.symm ▸ Nat.one_pos)))
variable {m} in
theorem Hyps.c3 (hH : Hyps m) (c : Dev nD) (t : Fin cfg0.N) :
    k0_chk4 ((ms0_0 t).view.readAt (Elt F) (Rect.unit (s := S12) ![3] S1.size inb_S12_S1_3).toLoadRect ((hs0_0 t).unread (iblk m c 0 t)) (Shape.Idx.first (numel1_S1.symm ▸ Nat.one_pos))) := (hH c t).2.2.2.1
/-- Conjunct 4 of `Hyps` at point `t`: the side condition `k0_chk5` the body assumes as `k0_hw5`. -/
abbrev Hyps.p4 (m : (ℓ : Loc nD τ sig) → Buf (Elt F) ℓ) (c : Dev nD) (t : Fin cfg0.N) : Prop :=
  k0_chk5 ((ms0_0 t).view.readAt (Elt F) (Rect.unit (s := S12) ![4] S1.size inb_S12_S1_4).toLoadRect ((hs0_0 t).unread (iblk m c 0 t)) (Shape.Idx.first (numel1_S1.symm ▸ Nat.one_pos)))
variable {m} in
theorem Hyps.c4 (hH : Hyps m) (c : Dev nD) (t : Fin cfg0.N) :
    k0_chk5 ((ms0_0 t).view.readAt (Elt F) (Rect.unit (s := S12) ![4] S1.size inb_S12_S1_4).toLoadRect ((hs0_0 t).unread (iblk m c 0 t)) (Shape.Idx.first (numel1_S1.symm ▸ Nat.one_pos))) := (hH c t).2.2.2.2.1
/-- Conjunct 5 of `Hyps` at point `t`: the side condition `k0_chk6` the body assumes as `k0_hw6`. -/
abbrev Hyps.p5 (m : (ℓ : Loc nD τ sig) → Buf (Elt F) ℓ) (c : Dev nD) (t : Fin cfg0.N) : Prop :=
  k0_chk6 ((ms0_0 t).view.readAt (Elt F) (Rect.unit (s := S12) ![5] S1.size inb_S12_S1_5).toLoadRect ((hs0_0 t).unread (iblk m c 0 t)) (Shape.Idx.first (numel1_S1.symm ▸ Nat.one_pos)))
variable {m} in
theorem Hyps.c5 (hH : Hyps m) (c : Dev nD) (t : Fin cfg0.N) :
    k0_chk6 ((ms0_0 t).view.readAt (Elt F) (Rect.unit (s := S12) ![5] S1.size inb_S12_S1_5).toLoadRect ((hs0_0 t).unread (iblk m c 0 t)) (Shape.Idx.first (numel1_S1.symm ▸ Nat.one_pos))) := (hH c t).2.2.2.2.2.1
/-- Conjunct 6 of `Hyps` at point `t`: the side condition `k0_chk7` the body assumes as `k0_hw7`. -/
abbrev Hyps.p6 (m : (ℓ : Loc nD τ sig) → Buf (Elt F) ℓ) (c : Dev nD) (t : Fin cfg0.N) : Prop :=
  k0_chk7 ((ms0_0 t).view.readAt (Elt F) (Rect.unit (s := S12) ![6] S1.size inb_S12_S1_6).toLoadRect ((hs0_0 t).unread (iblk m c 0 t)) (Shape.Idx.first (numel1_S1.symm ▸ Nat.one_pos)))
variable {m} in
theorem Hyps.c6 (hH : Hyps m) (c : Dev nD) (t : Fin cfg0.N) :
    k0_chk7 ((ms0_0 t).view.readAt (Elt F) (Rect.unit (s := S12) ![6] S1.size inb_S12_S1_6).toLoadRect ((hs0_0 t).unread (iblk m c 0 t)) (Shape.Idx.first (numel1_S1.symm ▸ Nat.one_pos))) := (hH c t).2.2.2.2.2.2.1
/-- Conjunct 7 of `Hyps` at point `t`: the side condition `k0_chk8` the body assumes as `k0_hw8`. -/
abbrev Hyps.p7 (m : (ℓ : Loc nD τ sig) → Buf (Elt F) ℓ) (c : Dev nD) (t : Fin cfg0.N) : Prop :=
  k0_chk8 ((ms0_0 t).view.readAt (Elt F) (Rect.unit (s := S12) ![7] S1.size inb_S12_S1_7).toLoadRect ((hs0_0 t).unread (iblk m c 0 t)) (Shape.Idx.first (numel1_S1.symm ▸ Nat.one_pos)))
variable {m} in
theorem Hyps.c7 (hH : Hyps m) (c : Dev nD) (t : Fin cfg0.N) :
    k0_chk8 ((ms0_0 t).view.readAt (Elt F) (Rect.unit (s := S12) ![7] S1.size inb_S12_S1_7).toLoadRect ((hs0_0 t).unread (iblk m c 0 t)) (Shape.Idx.first (numel1_S1.symm ▸ Nat.one_pos))) := (hH c t).2.2.2.2.2.2.2.1
/-- Conjunct 8 of `Hyps` at point `t`: the side condition `k0_chk9` the body assumes as `k0_hw9`. -/
abbrev Hyps.p8 (m : (ℓ : Loc nD τ sig) → Buf (Elt F) ℓ) (c : Dev nD) (t : Fin cfg0.N) : Prop :=
  k0_chk9 ((ms0_0 t).view.readAt (Elt F) (Rect.unit (s := S12) ![8] S1.size inb_S12_S1_8).toLoadRect ((hs0_0 t).unread (iblk m c 0 t)) (Shape.Idx.first (numel1_S1.symm ▸ Nat.one_pos)))
variable {m} in
theorem Hyps.c8 (hH : Hyps m) (c : Dev nD) (t : Fin cfg0.N) :
    k0_chk9 ((ms0_0 t).view.readAt (Elt F) (Rect.unit (s := S12) ![8] S1.size inb_S12_S1_8).toLoadRect ((hs0_0 t).unread (iblk m c 0 t)) (Shape.Idx.first (numel1_S1.symm ▸ Nat.one_pos))) := (hH c t).2.2.2.2.2.2.2.2.1
/-- Conjunct 9 of `Hyps` at point `t`: the side condition `k0_chk10` the body assumes as `k0_hw10`. -/
abbrev Hyps.p9 (m : (ℓ : Loc nD τ sig) → Buf (Elt F) ℓ) (c : Dev nD) (t : Fin cfg0.N) : Prop :=
  k0_chk10 ((ms0_0 t).view.readAt (Elt F) (Rect.unit (s := S12) ![9] S1.size inb_S12_S1_9).toLoadRect ((hs0_0 t).unread (iblk m c 0 t)) (Shape.Idx.first (numel1_S1.symm ▸ Nat.one_pos)))
variable {m} in
theorem Hyps.c9 (hH : Hyps m) (c : Dev nD) (t : Fin cfg0.N) :
    k0_chk10 ((ms0_0 t).view.readAt (Elt F) (Rect.unit (s := S12) ![9] S1.size inb_S12_S1_9).toLoadRect ((hs0_0 t).unread (iblk m c 0 t)) (Shape.Idx.first (numel1_S1.symm ▸ Nat.one_pos))) := (hH c t).2.2.2.2.2.2.2.2.2.1
/-- Conjunct 10 of `Hyps` at point `t`: the side condition `k0_chk11` the body assumes as `k0_hw11`. -/
abbrev Hyps.p10 (m : (ℓ : Loc nD τ sig) → Buf (Elt F) ℓ) (c : Dev nD) (t : Fin cfg0.N) : Prop :=
  k0_chk11 ((ms0_0 t).view.readAt (Elt F) (Rect.unit (s := S12) ![10] S1.size inb_S12_S1_10).toLoadRect ((hs0_0 t).unread (iblk m c 0 t)) (Shape.Idx.first (numel1_S1.symm ▸ Nat.one_pos)))
variable {m} in
theorem Hyps.c10 (hH : Hyps m) (c : Dev nD) (t : Fin cfg0.N) :
    k0_chk11 ((ms0_0 t).view.readAt (Elt F) (Rect.unit (s := S12) ![10] S1.size inb_S12_S1_10).toLoadRect ((hs0_0 t).unread (iblk m c 0 t)) (Shape.Idx.first (numel1_S1.symm ▸ Nat.one_pos))) := (hH c t).2.2.2.2.2.2.2.2.2.2.1
/-- Conjunct 11 of `Hyps` at point `t`: the side condition `k0_chk12` the body assumes as `k0_hw12`. -/
abbrev Hyps.p11 (m : (ℓ : Loc nD τ sig) → Buf (Elt F) ℓ) (c : Dev nD) (t : Fin cfg0.N) : Prop :=
  k0_chk12 ((ms0_0 t).view.readAt (Elt F) (Rect.unit (s := S12) ![11] S1.size inb_S12_S1_11).toLoadRect ((hs0_0 t).unread (iblk m c 0 t)) (Shape.Idx.first (numel1_S1.symm ▸ Nat.one_pos)))
variable {m} in
theorem Hyps.c11 (hH : Hyps m) (c : Dev nD) (t : Fin cfg0.N) :
    k0_chk12 ((ms0_0 t).view.readAt (Elt F) (Rect.unit (s := S12) ![11] S1.size inb_S12_S1_11).toLoadRect ((hs0_0 t).unread (iblk m c 0 t)) (Shape.Idx.first (numel1_S1.symm ▸ Nat.one_pos))) := (hH c t).2.2.2.2.2.2.2.2.2.2.2
variable {m} in
theorem Hyps.of
    (p0 : ∀ (c : Dev nD) (t : Fin cfg0.N), Hyps.p0 m c t)
    (p1 : ∀ (c : Dev nD) (t : Fin cfg0.N), Hyps.p1 m c t)
    (p2 : ∀ (c : Dev nD) (t : Fin cfg0.N), Hyps.p2 m c t)
    (p3 : ∀ (c : Dev nD) (t : Fin cfg0.N), Hyps.p3 m c t)
    (p4 : ∀ (c : Dev nD) (t : Fin cfg0.N), Hyps.p4 m c t)
    (p5 : ∀ (c : Dev nD) (t : Fin cfg0.N), Hyps.p5 m c t)
    (p6 : ∀ (c : Dev nD) (t : Fin cfg0.N), Hyps.p6 m c t)
    (p7 : ∀ (c : Dev nD) (t : Fin cfg0.N), Hyps.p7 m c t)
    (p8 : ∀ (c : Dev nD) (t : Fin cfg0.N), Hyps.p8 m c t)
    (p9 : ∀ (c : Dev nD) (t : Fin cfg0.N), Hyps.p9 m c t)
    (p10 : ∀ (c : Dev nD) (t : Fin cfg0.N), Hyps.p10 m c t)
    (p11 : ∀ (c : Dev nD) (t : Fin cfg0.N), Hyps.p11 m c t) :
    Hyps m := fun c t =>
  And.intro (p0 c t) (And.intro (p1 c t) (And.intro (p2 c t) (And.intro (p3 c t) (And.intro (p4 c t) (And.intro (p5 c t) (And.intro (p6 c t) (And.intro (p7 c t) (And.intro (p8 c t) (And.intro (p9 c t) (And.intro (p10 c t) (p11 c t)))))))))))

/-- The scratch operands: whole scoped buffers of the kernel's own, passed beside the windows. -/
abbrev scM0_0 : Memref sig .tc .vmem S16x320 .bf16 := Memref.whole cc0_scratch0
abbrev scM0_1 : Memref sig .tc .vmem S16x320 .bf16 := Memref.whole cc0_scratch1
abbrev scM0_2 : Memref sig .tc .vmem S16x3584 .f32 := Memref.whole cc0_scratch2
abbrev scM0_3 : Memref sig .tc .vmem S320x16 .f32 := Memref.whole cc0_scratch3
abbrev scM0_4 : Memref sig .tc .vmem S16x3584 .bf16 := Memref.whole cc0_scratch4
/-- The scratch `arg18` the kernel carries between points, as a view: what it holds is stated through it. -/
abbrev VS0_0 : View sig .tc .vmem S16x320 .bf16 := scM0_0.view
/-- The scratch `arg19` the kernel carries between points, as a view: what it holds is stated through it. -/
abbrev VS0_1 : View sig .tc .vmem S16x320 .bf16 := scM0_1.view
/-- The scratch `arg20` the kernel carries between points, as a view: what it holds is stated through it. -/
abbrev VS0_2 : View sig .tc .vmem S16x3584 .f32 := scM0_2.view
/-- The scratch `arg21` the kernel carries between points, as a view: what it holds is stated through it. -/
abbrev VS0_3 : View sig .tc .vmem S320x16 .f32 := scM0_3.view
/-- The scratch `arg22` the kernel carries between points, as a view: what it holds is stated through it. -/
abbrev VS0_4 : View sig .tc .vmem S16x3584 .bf16 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Body

end
-- ==== Proof.Words.lean ====
/-
  The body's side conditions, from the precondition: the scale table is read inside its five entries.
-/
module

public import proofs.«01_k».proof.Proof.Adapters
public import proofs.«01_k».proof.Proof.Body.Shared

@[expose] public section

set_option maxRecDepth 16384

noncomputable section

namespace Cert.KernelIdeal.Body

open Cert.KernelIdeal.Gen
open Idealize.ShloMosaic Idealize.ShloMosaic.TcCoe Idealize.SL.Sem

variable {F : FTy → Type} [FloatOps F]

/-- A number below 5 is the place of one of five words. -/
theorem inside (w : BitVec 32) (h : w.toNat < 5) : ∀ a, (![(Scalar.indexCast w : Index).toNat] : Fin 1 → ℕ) a + S1.size a ≤ S5.size a := by
  intro a
  fin_cases a <;> simp [Scalar.indexCast] <;> omega

/-- If every row's word is below 5, every side condition the body assumes holds at every point. -/
theorem hyps_of_words (m : (ℓ : Loc nD τ sig) → Buf (Elt F) ℓ)
    (h : ∀ (c : Dev nD) (y : S12.Idx), ((m ((c.tc : Thread nD τ).loc main_arg1) : IVec S12 32) y).toNat < 5) : Hyps m := by
  have rd : ∀ (c : Dev nD) (t : Fin cfg0.N) (i : S12.Idx), ((iblk m c 0 t : Vec F S12 .i32) i).toNat < 5 := fun c t i => by
    unfold iblk; rw [View.read_apply, cast_eq]
    exact lt_of_eq_of_lt (congrArg BitVec.toNat (congrFun (V_main_arg1 m c) _)) (h c _)
  intro c t
  simp only [View.readAt_apply, Memref.IsWhole.read_unread]
  exact ⟨inside _ (rd c t _), inside _ (rd c t _), inside _ (rd c t _), inside _ (rd c t _), inside _ (rd c t _), inside _ (rd c t _), inside _ (rd c t _), inside _ (rd c t _), inside _ (rd c t _), inside _ (rd c t _), inside _ (rd c t _), inside _ (rd c t _)⟩

end Cert.KernelIdeal.Body

end
-- ==== Proof.Body.First.lean ====
/- The whole kernel body at the first grid point: its triple, and the pieces that its stores leave in every buffer. -/
module

public import proofs.«01_k».proof.Proof.Body.Shared

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
set_option maxHeartbeats 1000000 in
/-- What the body's stores leave in each output's staging memref, as pieces (last first) IN CASE A (`scf.if` 0 taken, `scf.if` 1 not taken: points 0), WITH the
    proof that on whole staging memrefs — the inputs' at their contents, the outputs it leaves idle (13, 16: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S12 .i32) (harg1 : arg1.IsWhole) (arg2 : Memref sig .tc .smem S5 .f32) (harg2 : arg2.IsWhole) (arg3 : Memref sig .tc .vmem S12x3584 .bf16) (harg3 : arg3.IsWhole) (arg4 : Memref sig .tc .vmem S448x512 .i32) (harg4 : arg4.IsWhole) (arg5 : Memref sig .tc .vmem S448x512 .i32) (harg5 : arg5.IsWhole) (arg6 : Memref sig .tc .vmem S28x512 .bf16) (harg6 : arg6.IsWhole) (arg7 : Memref sig .tc .vmem S28x512 .bf16) (harg7 : arg7.IsWhole) (arg8 : Memref sig .tc .vmem S64x3584 .i32) (harg8 : arg8.IsWhole) (arg9 : Memref sig .tc .vmem S152x3584 .f32) (harg9 : arg9.IsWhole) (arg10 : Memref sig .tc .vmem S5x3584x128 .bf16) (harg10 : arg10.IsWhole) (arg11 : Memref sig .tc .vmem S5x2x64x512 .bf16) (harg11 : arg11.IsWhole) (arg12 : Memref sig .tc .vmem S5x64x512 .bf16) (harg12 : arg12.IsWhole) (arg13 : Memref sig .tc .vmem S5x64x3584 .bf16) (harg13 : arg13.IsWhole) (arg14 : Memref sig .tc .vmem S12x3584 .bf16) (harg14 : arg14.IsWhole) (arg15 : Memref sig .tc .vmem S12x512 .bf16) (harg15 : arg15.IsWhole) (arg16 : Memref sig .tc .vmem S12x128 .bf16) (harg16 : arg16.IsWhole) (arg17 : Memref sig .tc .vmem S12x64 .bf16) (harg17 : arg17.IsWhole) (arg18 : Memref sig .tc .vmem S16x320 .bf16) (harg18 : arg18.IsWhole) (arg19 : Memref sig .tc .vmem S16x320 .bf16) (harg19 : arg19.IsWhole) (arg20 : Memref sig .tc .vmem S16x3584 .f32) (harg20 : arg20.IsWhole) (arg21 : Memref sig .tc .vmem S320x16 .f32) (harg21 : arg21.IsWhole) (arg22 : Memref sig .tc .vmem S16x3584 .bf16) (harg22 : arg22.IsWhole) (hc0 : cond0_0 i) (hc1 : ¬cond0_1 i)
    (x0 : Vec F S12 .i32) (x1 : Vec F S5 .f32) (x2 : Vec F S12x3584 .bf16) (x3 : Vec F S448x512 .i32) (x4 : Vec F S448x512 .i32) (x5 : Vec F S28x512 .bf16) (x6 : Vec F S28x512 .bf16) (x7 : Vec F S64x3584 .i32) (x8 : Vec F S152x3584 .f32) (x9 : Vec F S5x3584x128 .bf16) (x10 : Vec F S5x2x64x512 .bf16) (x11 : Vec F S5x64x512 .bf16) (x12 : Vec F S5x64x3584 .bf16) (k0_hw1 : k0_chk1 (arg1.view.readAt (Elt F) (Rect.unit (s := S12) ![0] S1.size inb_S12_S1_0).toLoadRect (harg1.unread x0) (Shape.Idx.first (numel1_S1.symm ▸ Nat.one_pos)))) (k0_hw2 : k0_chk2 (arg1.view.readAt (Elt F) (Rect.unit (s := S12) ![1] S1.size inb_S12_S1_1).toLoadRect (harg1.unread x0) (Shape.Idx.first (numel1_S1.symm ▸ Nat.one_pos)))) (k0_hw3 : k0_chk3 (arg1.view.readAt (Elt F) (Rect.unit (s := S12) ![2] S1.size inb_S12_S1_2).toLoadRect (harg1.unread x0) (Shape.Idx.first (numel1_S1.symm ▸ Nat.one_pos)))) (k0_hw4 : k0_chk4 (arg1.view.readAt (Elt F) (Rect.unit (s := S12) ![3] S1.size inb_S12_S1_3).toLoadRect (harg1.unread x0) (Shape.Idx.first (numel1_S1.symm ▸ Nat.one_pos)))) (k0_hw5 : k0_chk5 (arg1.view.readAt (Elt F) (Rect.unit (s := S12) ![4] S1.size inb_S12_S1_4).toLoadRect (harg1.unread x0) (Shape.Idx.first (numel1_S1.symm ▸ Nat.one_pos)))) (k0_hw6 : k0_chk6 (arg1.view.readAt (Elt F) (Rect.unit (s := S12) ![5] S1.size inb_S12_S1_5).toLoadRect (harg1.unread x0) (Shape.Idx.first (numel1_S1.symm ▸ Nat.one_pos)))) (k0_hw7 : k0_chk7 (arg1.view.readAt (Elt F) (Rect.unit (s := S12) ![6] S1.size inb_S12_S1_6).toLoadRect (harg1.unread x0) (Shape.Idx.first (numel1_S1.symm ▸ Nat.one_pos)))) (k0_hw8 : k0_chk8 (arg1.view.readAt (Elt F) (Rect.unit (s := S12) ![7] S1.size inb_S12_S1_7).toLoadRect (harg1.unread x0) (Shape.Idx.first (numel1_S1.symm ▸ Nat.one_pos)))) (k0_hw9 : k0_chk9 (arg1.view.readAt (Elt F) (Rect.unit (s := S12) ![8] S1.size inb_S12_S1_8).toLoadRect (harg1.unread x0) (Shape.Idx.first (numel1_S1.symm ▸ Nat.one_pos)))) (k0_hw10 : k0_chk10 (arg1.view.readAt (Elt F) (Rect.unit (s := S12) ![9] S1.size inb_S12_S1_9).toLoadRect (harg1.unread x0) (Shape.Idx.first (numel1_S1.symm ▸ Nat.one_pos)))) (k0_hw11 : k0_chk11 (arg1.view.readAt (Elt F) (Rect.unit (s := S12) ![10] S1.size inb_S12_S1_10).toLoadRect (harg1.unread x0) (Shape.Idx.first (numel1_S1.symm ▸ Nat.one_pos)))) (k0_hw12 : k0_chk12 (arg1.view.readAt (Elt F) (Rect.unit (s := S12) ![11] S1.size inb_S12_S1_11).toLoadRect (harg1.unread x0) (Shape.Idx.first (numel1_S1.symm ▸ Nat.one_pos)))) :
    Σ' (L13 : List (View.Piece (Elt F) S12x3584 .bf16)), Σ' (L14 : List (View.Piece (Elt F) S12x512 .bf16)), Σ' (L15 : List (View.Piece (Elt F) S12x128 .bf16)), Σ' (L16 : List (View.Piece (Elt F) S12x64 .bf16)), Σ' (LS0 : List (View.Piece (Elt F) S16x320 .bf16)), Σ' (LS1 : List (View.Piece (Elt F) S16x320 .bf16)), Σ' (LS2 : List (View.Piece (Elt F) S16x3584 .f32)), Σ' (LS3 : List (View.Piece (Elt F) S320x16 .f32)), { LS4 : List (View.Piece (Elt F) S16x3584 .bf16) //
      ∀ (xi13 : Vec F S12x3584 .bf16) (xi16 : Vec F S12x64 .bf16) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xi13 ∗ (∃ d, owns (c : Thread nD τ) arg15 fullShare d) ∗ (∃ d, owns (c : Thread nD τ) arg16 fullShare d) ∗ owns (c : Thread nD τ) arg17 fullShare xi16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xi13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xi16 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ (∃ f, arg22.view.loc (c : Thread nD τ) ↦[arg22.view.set]{fullShare} arg22.view.writes (Elt F) f LS4)) -∗ K ⟨⟩))
          ⊢ wp frame (wpE (defs₀ (F := F)) Variants.none c none) E (cc0_swiglu_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, ?_, [], ?_, ?_, ?_, ?_, ?_, fun xi13 xi16 E K => ?run⟩
  case run =>
    simp only [cc0_swiglu_lora_eq_skeleton]; unfold cc0_swiglu_lora_skel
    simp only [k0_part25_eq_skeleton, k0_part5_eq_skeleton, k0_part6_eq_skeleton, k0_part7_eq_skeleton, k0_part8_eq_skeleton, k0_part1_eq_skeleton, k0_part2_eq_skeleton, k0_part3_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hf16
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]
    · iexists _; isplitr; · ipureintro; exact harg17.read_unread _
      iexact H16
    isplitl [HS0]; · iexists _; iexact HS0
    isplitl [HS1]; · iexists _; iexact HS1
    isplitl [HS2]; · iexists _; iexact HS2
    isplitl [HS3]; · iexists _; iexact HS3
    iexists _; iexact HS4

end Cert.KernelIdeal.Body

end
-- ==== Proof.Body.Middle.lean ====
/- The whole kernel body at a grid point that is neither the first nor the last: its triple, and the pieces that its stores leave in every buffer. -/
module

public import proofs.«01_k».proof.Proof.Body.Shared

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
set_option maxHeartbeats 1600000 in
/-- What the body's stores leave in each output's staging memref, as pieces (last first) IN CASE B (`scf.if` 0 not taken, `scf.if` 1 not taken: points 1, 2, … 35: 35 of 37), WITH the
    proof that on whole staging memrefs — the inputs' at their contents, the outputs it leaves idle (13, 15, 16: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S12 .i32) (harg1 : arg1.IsWhole) (arg2 : Memref sig .tc .smem S5 .f32) (harg2 : arg2.IsWhole) (arg3 : Memref sig .tc .vmem S12x3584 .bf16) (harg3 : arg3.IsWhole) (arg4 : Memref sig .tc .vmem S448x512 .i32) (harg4 : arg4.IsWhole) (arg5 : Memref sig .tc .vmem S448x512 .i32) (harg5 : arg5.IsWhole) (arg6 : Memref sig .tc .vmem S28x512 .bf16) (harg6 : arg6.IsWhole) (arg7 : Memref sig .tc .vmem S28x512 .bf16) (harg7 : arg7.IsWhole) (arg8 : Memref sig .tc .vmem S64x3584 .i32) (harg8 : arg8.IsWhole) (arg9 : Memref sig .tc .vmem S152x3584 .f32) (harg9 : arg9.IsWhole) (arg10 : Memref sig .tc .vmem S5x3584x128 .bf16) (harg10 : arg10.IsWhole) (arg11 : Memref sig .tc .vmem S5x2x64x512 .bf16) (harg11 : arg11.IsWhole) (arg12 : Memref sig .tc .vmem S5x64x512 .bf16) (harg12 : arg12.IsWhole) (arg13 : Memref sig .tc .vmem S5x64x3584 .bf16) (harg13 : arg13.IsWhole) (arg14 : Memref sig .tc .vmem S12x3584 .bf16) (harg14 : arg14.IsWhole) (arg15 : Memref sig .tc .vmem S12x512 .bf16) (harg15 : arg15.IsWhole) (arg16 : Memref sig .tc .vmem S12x128 .bf16) (harg16 : arg16.IsWhole) (arg17 : Memref sig .tc .vmem S12x64 .bf16) (harg17 : arg17.IsWhole) (arg18 : Memref sig .tc .vmem S16x320 .bf16) (harg18 : arg18.IsWhole) (arg19 : Memref sig .tc .vmem S16x320 .bf16) (harg19 : arg19.IsWhole) (arg20 : Memref sig .tc .vmem S16x3584 .f32) (harg20 : arg20.IsWhole) (arg21 : Memref sig .tc .vmem S320x16 .f32) (harg21 : arg21.IsWhole) (arg22 : Memref sig .tc .vmem S16x3584 .bf16) (harg22 : arg22.IsWhole) (hc0 : ¬cond0_0 i) (hc1 : ¬cond0_1 i)
    (x0 : Vec F S12 .i32) (x1 : Vec F S5 .f32) (x2 : Vec F S12x3584 .bf16) (x3 : Vec F S448x512 .i32) (x4 : Vec F S448x512 .i32) (x5 : Vec F S28x512 .bf16) (x6 : Vec F S28x512 .bf16) (x7 : Vec F S64x3584 .i32) (x8 : Vec F S152x3584 .f32) (x9 : Vec F S5x3584x128 .bf16) (x10 : Vec F S5x2x64x512 .bf16) (x11 : Vec F S5x64x512 .bf16) (x12 : Vec F S5x64x3584 .bf16) (xs0 : Vec F S16x320 .bf16) (xs1 : Vec F S16x320 .bf16) (xs2 : Vec F S16x3584 .f32) (xs3 : Vec F S320x16 .f32) (xs4 : Vec F S16x3584 .bf16) (k0_hw1 : k0_chk1 (arg1.view.readAt (Elt F) (Rect.unit (s := S12) ![0] S1.size inb_S12_S1_0).toLoadRect (harg1.unread x0) (Shape.Idx.first (numel1_S1.symm ▸ Nat.one_pos)))) (k0_hw2 : k0_chk2 (arg1.view.readAt (Elt F) (Rect.unit (s := S12) ![1] S1.size inb_S12_S1_1).toLoadRect (harg1.unread x0) (Shape.Idx.first (numel1_S1.symm ▸ Nat.one_pos)))) (k0_hw3 : k0_chk3 (arg1.view.readAt (Elt F) (Rect.unit (s := S12) ![2] S1.size inb_S12_S1_2).toLoadRect (harg1.unread x0) (Shape.Idx.first (numel1_S1.symm ▸ Nat.one_pos)))) (k0_hw4 : k0_chk4 (arg1.view.readAt (Elt F) (Rect.unit (s := S12) ![3] S1.size inb_S12_S1_3).toLoadRect (harg1.unread x0) (Shape.Idx.first (numel1_S1.symm ▸ Nat.one_pos)))) (k0_hw5 : k0_chk5 (arg1.view.readAt (Elt F) (Rect.unit (s := S12) ![4] S1.size inb_S12_S1_4).toLoadRect (harg1.unread x0) (Shape.Idx.first (numel1_S1.symm ▸ Nat.one_pos)))) (k0_hw6 : k0_chk6 (arg1.view.readAt (Elt F) (Rect.unit (s := S12) ![5] S1.size inb_S12_S1_5).toLoadRect (harg1.unread x0) (Shape.Idx.first (numel1_S1.symm ▸ Nat.one_pos)))) (k0_hw7 : k0_chk7 (arg1.view.readAt (Elt F) (Rect.unit (s := S12) ![6] S1.size inb_S12_S1_6).toLoadRect (harg1.unread x0) (Shape.Idx.first (numel1_S1.symm ▸ Nat.one_pos)))) (k0_hw8 : k0_chk8 (arg1.view.readAt (Elt F) (Rect.unit (s := S12) ![7] S1.size inb_S12_S1_7).toLoadRect (harg1.unread x0) (Shape.Idx.first (numel1_S1.symm ▸ Nat.one_pos)))) (k0_hw9 : k0_chk9 (arg1.view.readAt (Elt F) (Rect.unit (s := S12) ![8] S1.size inb_S12_S1_8).toLoadRect (harg1.unread x0) (Shape.Idx.first (numel1_S1.symm ▸ Nat.one_pos)))) (k0_hw10 : k0_chk10 (arg1.view.readAt (Elt F) (Rect.unit (s := S12) ![9] S1.size inb_S12_S1_9).toLoadRect (harg1.unread x0) (Shape.Idx.first (numel1_S1.symm ▸ Nat.one_pos)))) (k0_hw11 : k0_chk11 (arg1.view.readAt (Elt F) (Rect.unit (s := S12) ![10] S1.size inb_S12_S1_10).toLoadRect (harg1.unread x0) (Shape.Idx.first (numel1_S1.symm ▸ Nat.one_pos)))) (k0_hw12 : k0_chk12 (arg1.view.readAt (Elt F) (Rect.unit (s := S12) ![11] S1.size inb_S12_S1_11).toLoadRect (harg1.unread x0) (Shape.Idx.first (numel1_S1.symm ▸ Nat.one_pos)))) :
    Σ' (L13 : List (View.Piece (Elt F) S12x3584 .bf16)), Σ' (L14 : List (View.Piece (Elt F) S12x512 .bf16)), Σ' (L15 : List (View.Piece (Elt F) S12x128 .bf16)), Σ' (L16 : List (View.Piece (Elt F) S12x64 .bf16)), Σ' (LS0 : List (View.Piece (Elt F) S16x320 .bf16)), Σ' (LS1 : List (View.Piece (Elt F) S16x320 .bf16)), Σ' (LS2 : List (View.Piece (Elt F) S16x3584 .f32)), Σ' (LS3 : List (View.Piece (Elt F) S320x16 .f32)), { LS4 : List (View.Piece (Elt F) S16x3584 .bf16) //
      ∀ (xi13 : Vec F S12x3584 .bf16) (xi15 : Vec F S12x128 .bf16) (xi16 : Vec F S12x64 .bf16) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xi13 ∗ (∃ d, owns (c : Thread nD τ) arg15 fullShare d) ∗ owns (c : Thread nD τ) arg16 fullShare xi15 ∗ owns (c : Thread nD τ) arg17 fullShare xi16 ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xi13 ∗ (∃ f, arg15.view.loc (c : Thread nD τ) ↦[arg15.view.set]{fullShare} arg15.view.writes (Elt F) f L14) ∗ owns (c : Thread nD τ) arg16 fullShare xi15 ∗ owns (c : Thread nD τ) arg17 fullShare xi16 ∗ owns (c : Thread nD τ) arg18 fullShare xs0 ∗ owns (c : Thread nD τ) arg19 fullShare xs1 ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ owns (c : Thread nD τ) arg22 fullShare xs4) -∗ K ⟨⟩))
          ⊢ wp frame (wpE (defs₀ (F := F)) Variants.none c none) E (cc0_swiglu_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, [], [], [], [], ?_, ?_, [], fun xi13 xi15 xi16 E K => ?run⟩
  case run =>
    simp only [cc0_swiglu_lora_eq_skeleton]; unfold cc0_swiglu_lora_skel
    simp only [k0_part25_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hfs0; obtain rfl := harg19.eq_unread hfs1; obtain rfl := harg20.eq_unread hfs2; obtain rfl := harg21.eq_unread hfs3; obtain rfl := harg22.eq_unread hfs4
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]
    · iexists _; isplitr; · ipureintro; exact harg16.read_unread _
      iexact H15
    isplitl [H16]
    · iexists _; isplitr; · ipureintro; exact harg17.read_unread _
      iexact H16
    isplitl [HS0]
    · iexists _; isplitr; · ipureintro; exact harg18.read_unread _
      iexact HS0
    isplitl [HS1]
    · iexists _; isplitr; · ipureintro; exact harg19.read_unread _
      iexact HS1
    isplitl [HS2]; · iexists _; iexact HS2
    isplitl [HS3]; · iexists _; iexact HS3
    iexists _; isplitr; · ipureintro; exact harg22.read_unread _
    iexact HS4

end Cert.KernelIdeal.Body

end
-- ==== Proof.Body.Last.lean ====
/- The whole kernel body at the last grid point: its triple, and the pieces that its stores leave in every buffer. -/
module

public import proofs.«01_k».proof.Proof.Body.Shared

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
set_option maxHeartbeats 1600000 in
/-- What the body's stores leave in each output's staging memref, as pieces (last first) IN CASE C (`scf.if` 0 not taken, `scf.if` 1 taken: points 36), WITH the
    proof that on whole staging memrefs — the inputs' at their contents, output 15, which it leaves as it is, at its running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .smem S12 .i32) (harg1 : arg1.IsWhole) (arg2 : Memref sig .tc .smem S5 .f32) (harg2 : arg2.IsWhole) (arg3 : Memref sig .tc .vmem S12x3584 .bf16) (harg3 : arg3.IsWhole) (arg4 : Memref sig .tc .vmem S448x512 .i32) (harg4 : arg4.IsWhole) (arg5 : Memref sig .tc .vmem S448x512 .i32) (harg5 : arg5.IsWhole) (arg6 : Memref sig .tc .vmem S28x512 .bf16) (harg6 : arg6.IsWhole) (arg7 : Memref sig .tc .vmem S28x512 .bf16) (harg7 : arg7.IsWhole) (arg8 : Memref sig .tc .vmem S64x3584 .i32) (harg8 : arg8.IsWhole) (arg9 : Memref sig .tc .vmem S152x3584 .f32) (harg9 : arg9.IsWhole) (arg10 : Memref sig .tc .vmem S5x3584x128 .bf16) (harg10 : arg10.IsWhole) (arg11 : Memref sig .tc .vmem S5x2x64x512 .bf16) (harg11 : arg11.IsWhole) (arg12 : Memref sig .tc .vmem S5x64x512 .bf16) (harg12 : arg12.IsWhole) (arg13 : Memref sig .tc .vmem S5x64x3584 .bf16) (harg13 : arg13.IsWhole) (arg14 : Memref sig .tc .vmem S12x3584 .bf16) (harg14 : arg14.IsWhole) (arg15 : Memref sig .tc .vmem S12x512 .bf16) (harg15 : arg15.IsWhole) (arg16 : Memref sig .tc .vmem S12x128 .bf16) (harg16 : arg16.IsWhole) (arg17 : Memref sig .tc .vmem S12x64 .bf16) (harg17 : arg17.IsWhole) (arg18 : Memref sig .tc .vmem S16x320 .bf16) (harg18 : arg18.IsWhole) (arg19 : Memref sig .tc .vmem S16x320 .bf16) (harg19 : arg19.IsWhole) (arg20 : Memref sig .tc .vmem S16x3584 .f32) (harg20 : arg20.IsWhole) (arg21 : Memref sig .tc .vmem S320x16 .f32) (harg21 : arg21.IsWhole) (arg22 : Memref sig .tc .vmem S16x3584 .bf16) (harg22 : arg22.IsWhole) (hc0 : ¬cond0_0 i) (hc1 : cond0_1 i)
    (x0 : Vec F S12 .i32) (x1 : Vec F S5 .f32) (x2 : Vec F S12x3584 .bf16) (x3 : Vec F S448x512 .i32) (x4 : Vec F S448x512 .i32) (x5 : Vec F S28x512 .bf16) (x6 : Vec F S28x512 .bf16) (x7 : Vec F S64x3584 .i32) (x8 : Vec F S152x3584 .f32) (x9 : Vec F S5x3584x128 .bf16) (x10 : Vec F S5x2x64x512 .bf16) (x11 : Vec F S5x64x512 .bf16) (x12 : Vec F S5x64x3584 .bf16) (xo15 : Vec F S12x128 .bf16) (xs0 : Vec F S16x320 .bf16) (xs1 : Vec F S16x320 .bf16) (xs2 : Vec F S16x3584 .f32) (xs3 : Vec F S320x16 .f32) (xs4 : Vec F S16x3584 .bf16) (k0_hw1 : k0_chk1 (arg1.view.readAt (Elt F) (Rect.unit (s := S12) ![0] S1.size inb_S12_S1_0).toLoadRect (harg1.unread x0) (Shape.Idx.first (numel1_S1.symm ▸ Nat.one_pos)))) (k0_hw2 : k0_chk2 (arg1.view.readAt (Elt F) (Rect.unit (s := S12) ![1] S1.size inb_S12_S1_1).toLoadRect (harg1.unread x0) (Shape.Idx.first (numel1_S1.symm ▸ Nat.one_pos)))) (k0_hw3 : k0_chk3 (arg1.view.readAt (Elt F) (Rect.unit (s := S12) ![2] S1.size inb_S12_S1_2).toLoadRect (harg1.unread x0) (Shape.Idx.first (numel1_S1.symm ▸ Nat.one_pos)))) (k0_hw4 : k0_chk4 (arg1.view.readAt (Elt F) (Rect.unit (s := S12) ![3] S1.size inb_S12_S1_3).toLoadRect (harg1.unread x0) (Shape.Idx.first (numel1_S1.symm ▸ Nat.one_pos)))) (k0_hw5 : k0_chk5 (arg1.view.readAt (Elt F) (Rect.unit (s := S12) ![4] S1.size inb_S12_S1_4).toLoadRect (harg1.unread x0) (Shape.Idx.first (numel1_S1.symm ▸ Nat.one_pos)))) (k0_hw6 : k0_chk6 (arg1.view.readAt (Elt F) (Rect.unit (s := S12) ![5] S1.size inb_S12_S1_5).toLoadRect (harg1.unread x0) (Shape.Idx.first (numel1_S1.symm ▸ Nat.one_pos)))) (k0_hw7 : k0_chk7 (arg1.view.readAt (Elt F) (Rect.unit (s := S12) ![6] S1.size inb_S12_S1_6).toLoadRect (harg1.unread x0) (Shape.Idx.first (numel1_S1.symm ▸ Nat.one_pos)))) (k0_hw8 : k0_chk8 (arg1.view.readAt (Elt F) (Rect.unit (s := S12) ![7] S1.size inb_S12_S1_7).toLoadRect (harg1.unread x0) (Shape.Idx.first (numel1_S1.symm ▸ Nat.one_pos)))) (k0_hw9 : k0_chk9 (arg1.view.readAt (Elt F) (Rect.unit (s := S12) ![8] S1.size inb_S12_S1_8).toLoadRect (harg1.unread x0) (Shape.Idx.first (numel1_S1.symm ▸ Nat.one_pos)))) (k0_hw10 : k0_chk10 (arg1.view.readAt (Elt F) (Rect.unit (s := S12) ![9] S1.size inb_S12_S1_9).toLoadRect (harg1.unread x0) (Shape.Idx.first (numel1_S1.symm ▸ Nat.one_pos)))) (k0_hw11 : k0_chk11 (arg1.view.readAt (Elt F) (Rect.unit (s := S12) ![10] S1.size inb_S12_S1_10).toLoadRect (harg1.unread x0) (Shape.Idx.first (numel1_S1.symm ▸ Nat.one_pos)))) (k0_hw12 : k0_chk12 (arg1.view.readAt (Elt F) (Rect.unit (s := S12) ![11] S1.size inb_S12_S1_11).toLoadRect (harg1.unread x0) (Shape.Idx.first (numel1_S1.symm ▸ Nat.one_pos)))) :
    Σ' (L13 : List (View.Piece (Elt F) S12x3584 .bf16)), Σ' (L14 : List (View.Piece (Elt F) S12x512 .bf16)), Σ' (L15 : List (View.Piece (Elt F) S12x128 .bf16)), Σ' (L16 : List (View.Piece (Elt F) S12x64 .bf16)), Σ' (LS0 : List (View.Piece (Elt F) S16x320 .bf16)), Σ' (LS1 : List (View.Piece (Elt F) S16x320 .bf16)), Σ' (LS2 : List (View.Piece (Elt F) S16x3584 .f32)), Σ' (LS3 : List (View.Piece (Elt F) S320x16 .f32)), { LS4 : List (View.Piece (Elt F) S16x3584 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xo15 ∗ (∃ d, owns (c : Thread nD τ) arg17 fullShare d) ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ owns (c : Thread nD τ) arg16 fullShare xo15 ∗ (∃ f, arg17.view.loc (c : Thread nD τ) ↦[arg17.view.set]{fullShare} arg17.view.writes (Elt F) f L16) ∗ owns (c : Thread nD τ) arg18 fullShare xs0 ∗ owns (c : Thread nD τ) arg19 fullShare xs1 ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ owns (c : Thread nD τ) arg22 fullShare xs4) -∗ K ⟨⟩))
          ⊢ wp frame (wpE (defs₀ (F := F)) Variants.none c none) E (cc0_swiglu_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, [], ?_, [], [], ?_, ?_, [], fun E K => ?run⟩
  case run =>
    simp only [cc0_swiglu_lora_eq_skeleton]; unfold cc0_swiglu_lora_skel
    simp only [k0_part25_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%d16, %f16, -, H16⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hf15; obtain rfl := harg18.eq_unread hfs0; obtain rfl := harg19.eq_unread hfs1; obtain rfl := harg20.eq_unread hfs2; obtain rfl := harg21.eq_unread hfs3; obtain rfl := harg22.eq_unread hfs4
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]
    · iexists _; isplitr; · ipureintro; exact harg16.read_unread _
      iexact H15
    isplitl [H16]; · iexists _; iexact H16
    isplitl [HS0]
    · iexists _; isplitr; · ipureintro; exact harg18.read_unread _
      iexact HS0
    isplitl [HS1]
    · iexists _; isplitr; · ipureintro; exact harg19.read_unread _
      iexact HS1
    isplitl [HS2]; · iexists _; iexact HS2
    isplitl [HS3]; · iexists _; iexact HS3
    iexists _; isplitr; · ipureintro; exact harg22.read_unread _
    iexact HS4

end Cert.KernelIdeal.Body

end
-- ==== Proof.Body.Left.lean ====
/-
  What the kernel body leaves behind at each grid point, as functions of the memory the launch starts from.
  The body's three cases (first point, middle points, last point) are run in First, Middle and Last; here each run is taken
  at a point's own buffers, and its recorded writes are read back as the contents of the buffer they fill.
-/
module

public import proofs.«01_k».proof.Proof.Body.First
public import proofs.«01_k».proof.Proof.Body.Middle
public import proofs.«01_k».proof.Proof.Body.Last

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What one grid point leaves in the buffers the kernel carries: the two result blocks written at the last point (`out`,
    `t16`), the point's own block of `h`, and the five scratch buffers. -/
structure Left (F : FTy → Type) [FloatOps F] where
  out : Vec F S12x3584 .bf16
  h : Vec F S12x512 .bf16
  t16 : Vec F S12x64 .bf16
  mg : Vec F S16x320 .bf16
  mu : Vec F S16x320 .bf16
  y : Vec F S16x3584 .f32
  tt : Vec F S320x16 .f32
  x16 : Vec F S16x3584 .bf16

/-- The run of the body at first point. -/
abbrev runA (hH : Hyps m) (c : Dev nD) (t : Fin cfg0.N) (h0 : t.val % 37 = 0) (h1 : ¬t.val % 37 = 36) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    scM0_0 (Memref.isWhole_whole _) scM0_1 (Memref.isWhole_whole _) scM0_2 (Memref.isWhole_whole _) scM0_3 (Memref.isWhole_whole _) scM0_4 (Memref.isWhole_whole _)
    ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t)

/-- The run of the body at a middle point, entered with the scratch `p`. -/
abbrev runB (hH : Hyps m) (c : Dev nD) (t : Fin cfg0.N) (h0 : ¬t.val % 37 = 0) (h1 : ¬t.val % 37 = 36) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.mg p.mu p.y p.tt p.x16
    (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t)

/-- The run of the body at last point, entered with the scratch `p` and `s` still in its buffer. -/
abbrev runC (hH : Hyps m) (c : Dev nD) (t : Fin cfg0.N) (h0 : ¬t.val % 37 = 0) (h1 : t.val % 37 = 36) (s : Vec F S12x128 .bf16) (p : Left F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) s p.mg p.mu p.y p.tt p.x16
    (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t)

/-! Every buffer a case stores to is stored to everywhere: the recorded pieces cover its shape. -/

theorem coverA_h (hH : Hyps m) (c : Dev nD) (t : Fin cfg0.N) (h0 : t.val % 37 = 0) (h1 : ¬t.val % 37 = 36) (y : S12x512.Idx) :
    ∃ pc ∈ (runA m hH c t h0 h1).2.1, y ∈ pc.1.set :=
  View.cover_of_tiledL (runA m hH c t h0 h1).2.1 S12x512.size (by sl_kernel_rfl) y

theorem coverA_s (hH : Hyps m) (c : Dev nD) (t : Fin cfg0.N) (h0 : t.val % 37 = 0) (h1 : ¬t.val % 37 = 36) (y : S12x128.Idx) :
    ∃ pc ∈ (runA m hH c t h0 h1).2.2.1, y ∈ pc.1.set :=
  View.cover_of_tiledL (runA m hH c t h0 h1).2.2.1 S12x128.size (by sl_kernel_rfl) y

theorem coverA_mg (hH : Hyps m) (c : Dev nD) (t : Fin cfg0.N) (h0 : t.val % 37 = 0) (h1 : ¬t.val % 37 = 36) (y : S16x320.Idx) :
    ∃ pc ∈ (runA m hH c t h0 h1).2.2.2.2.1, y ∈ pc.1.set :=
  View.cover_of_tiledL (runA m hH c t h0 h1).2.2.2.2.1 S16x320.size (by sl_kernel_rfl) y

theorem coverA_mu (hH : Hyps m) (c : Dev nD) (t : Fin cfg0.N) (h0 : t.val % 37 = 0) (h1 : ¬t.val % 37 = 36) (y : S16x320.Idx) :
    ∃ pc ∈ (runA m hH c t h0 h1).2.2.2.2.2.1, y ∈ pc.1.set :=
  View.cover_of_tiledL (runA m hH c t h0 h1).2.2.2.2.2.1 S16x320.size (by sl_kernel_rfl) y

theorem coverA_y (hH : Hyps m) (c : Dev nD) (t : Fin cfg0.N) (h0 : t.val % 37 = 0) (h1 : ¬t.val % 37 = 36) (y : S16x3584.Idx) :
    ∃ pc ∈ (runA m hH c t h0 h1).2.2.2.2.2.2.1, y ∈ pc.1.set :=
  View.cover_of_tiledL (runA m hH c t h0 h1).2.2.2.2.2.2.1 S16x3584.size (by sl_kernel_rfl) y

theorem coverA_tt (hH : Hyps m) (c : Dev nD) (t : Fin cfg0.N) (h0 : t.val % 37 = 0) (h1 : ¬t.val % 37 = 36) (y : S320x16.Idx) :
    ∃ pc ∈ (runA m hH c t h0 h1).2.2.2.2.2.2.2.1, y ∈ pc.1.set :=
  View.cover_of_tiledL (runA m hH c t h0 h1).2.2.2.2.2.2.2.1 S320x16.size (by sl_kernel_rfl) y

theorem coverA_x16 (hH : Hyps m) (c : Dev nD) (t : Fin cfg0.N) (h0 : t.val % 37 = 0) (h1 : ¬t.val % 37 = 36) (y : S16x3584.Idx) :
    ∃ pc ∈ (runA m hH c t h0 h1).2.2.2.2.2.2.2.2.1, y ∈ pc.1.set :=
  View.cover_of_wholeMem (runA m hH c t h0 h1).2.2.2.2.2.2.2.2.1 (by sl_whole_mem) y

theorem coverB_h (hH : Hyps m) (c : Dev nD) (t : Fin cfg0.N) (h0 : ¬t.val % 37 = 0) (h1 : ¬t.val % 37 = 36) (p : Left F) (y : S12x512.Idx) :
    ∃ pc ∈ (runB m hH c t h0 h1 p).2.1, y ∈ pc.1.set :=
  View.cover_of_tiledL (runB m hH c t h0 h1 p).2.1 S12x512.size (by sl_kernel_rfl) y

theorem coverB_y (hH : Hyps m) (c : Dev nD) (t : Fin cfg0.N) (h0 : ¬t.val % 37 = 0) (h1 : ¬t.val % 37 = 36) (p : Left F) (y : S16x3584.Idx) :
    ∃ pc ∈ (runB m hH c t h0 h1 p).2.2.2.2.2.2.1, y ∈ pc.1.set :=
  View.cover_of_tiledL (runB m hH c t h0 h1 p).2.2.2.2.2.2.1 S16x3584.size (by sl_kernel_rfl) y

theorem coverB_tt (hH : Hyps m) (c : Dev nD) (t : Fin cfg0.N) (h0 : ¬t.val % 37 = 0) (h1 : ¬t.val % 37 = 36) (p : Left F) (y : S320x16.Idx) :
    ∃ pc ∈ (runB m hH c t h0 h1 p).2.2.2.2.2.2.2.1, y ∈ pc.1.set :=
  View.cover_of_tiledL (runB m hH c t h0 h1 p).2.2.2.2.2.2.2.1 S320x16.size (by sl_kernel_rfl) y

theorem coverC_out (hH : Hyps m) (c : Dev nD) (t : Fin cfg0.N) (h0 : ¬t.val % 37 = 0) (h1 : t.val % 37 = 36) (s : Vec F S12x128 .bf16) (p : Left F) (y : S12x3584.Idx) :
    ∃ pc ∈ (runC m hH c t h0 h1 s p).1, y ∈ pc.1.set :=
  View.cover_of_tiledL (runC m hH c t h0 h1 s p).1 S12x3584.size (by sl_kernel_rfl) y

theorem coverC_h (hH : Hyps m) (c : Dev nD) (t : Fin cfg0.N) (h0 : ¬t.val % 37 = 0) (h1 : t.val % 37 = 36) (s : Vec F S12x128 .bf16) (p : Left F) (y : S12x512.Idx) :
    ∃ pc ∈ (runC m hH c t h0 h1 s p).2.1, y ∈ pc.1.set :=
  View.cover_of_tiledL (runC m hH c t h0 h1 s p).2.1 S12x512.size (by sl_kernel_rfl) y

theorem coverC_t16 (hH : Hyps m) (c : Dev nD) (t : Fin cfg0.N) (h0 : ¬t.val % 37 = 0) (h1 : t.val % 37 = 36) (s : Vec F S12x128 .bf16) (p : Left F) (y : S12x64.Idx) :
    ∃ pc ∈ (runC m hH c t h0 h1 s p).2.2.2.1, y ∈ pc.1.set :=
  View.cover_of_tiledL (runC m hH c t h0 h1 s p).2.2.2.1 S12x64.size (by sl_kernel_rfl) y

theorem coverC_y (hH : Hyps m) (c : Dev nD) (t : Fin cfg0.N) (h0 : ¬t.val % 37 = 0) (h1 : t.val % 37 = 36) (s : Vec F S12x128 .bf16) (p : Left F) (y : S16x3584.Idx) :
    ∃ pc ∈ (runC m hH c t h0 h1 s p).2.2.2.2.2.2.1, y ∈ pc.1.set :=
  View.cover_of_tiledL (runC m hH c t h0 h1 s p).2.2.2.2.2.2.1 S16x3584.size (by sl_kernel_rfl) y

theorem coverC_tt (hH : Hyps m) (c : Dev nD) (t : Fin cfg0.N) (h0 : ¬t.val % 37 = 0) (h1 : t.val % 37 = 36) (s : Vec F S12x128 .bf16) (p : Left F) (y : S320x16.Idx) :
    ∃ pc ∈ (runC m hH c t h0 h1 s p).2.2.2.2.2.2.2.1, y ∈ pc.1.set :=
  View.cover_of_tiledL (runC m hH c t h0 h1 s p).2.2.2.2.2.2.2.1 S320x16.size (by sl_kernel_rfl) y

/-- The first point leaves this. A block the case does not store to is left unspecified. -/
def leftA (hH : Hyps m) (c : Dev nD) (t : Fin cfg0.N) (h0 : t.val % 37 = 0) (h1 : ¬t.val % 37 = 36) : Left F where
  out := VO0_13.read (Elt F) VO0_13.junk
  h := VO0_14.read (Elt F) (VO0_14.writes (Elt F) VO0_14.junk (runA m hH c t h0 h1).2.1)
  t16 := VO0_16.read (Elt F) VO0_16.junk
  mg := VS0_0.read (Elt F) (VS0_0.writes (Elt F) VS0_0.junk (runA m hH c t h0 h1).2.2.2.2.1)
  mu := VS0_1.read (Elt F) (VS0_1.writes (Elt F) VS0_1.junk (runA m hH c t h0 h1).2.2.2.2.2.1)
  y := VS0_2.read (Elt F) (VS0_2.writes (Elt F) VS0_2.junk (runA m hH c t h0 h1).2.2.2.2.2.2.1)
  tt := VS0_3.read (Elt F) (VS0_3.writes (Elt F) VS0_3.junk (runA m hH c t h0 h1).2.2.2.2.2.2.2.1)
  x16 := VS0_4.read (Elt F) (VS0_4.writes (Elt F) VS0_4.junk (runA m hH c t h0 h1).2.2.2.2.2.2.2.2.1)

/-- A middle point leaves this. A block the case does not store to is left unspecified. -/
def leftB (hH : Hyps m) (c : Dev nD) (t : Fin cfg0.N) (h0 : ¬t.val % 37 = 0) (h1 : ¬t.val % 37 = 36) (p : Left F) : Left F where
  out := VO0_13.read (Elt F) VO0_13.junk
  h := VO0_14.read (Elt F) (VO0_14.writes (Elt F) VO0_14.junk (runB m hH c t h0 h1 p).2.1)
  t16 := VO0_16.read (Elt F) VO0_16.junk
  mg := p.mg
  mu := p.mu
  y := VS0_2.read (Elt F) (VS0_2.writes (Elt F) VS0_2.junk (runB m hH c t h0 h1 p).2.2.2.2.2.2.1)
  tt := VS0_3.read (Elt F) (VS0_3.writes (Elt F) VS0_3.junk (runB m hH c t h0 h1 p).2.2.2.2.2.2.2.1)
  x16 := p.x16

/-- The last point leaves this. A block the case does not store to is left unspecified. -/
def leftC (hH : Hyps m) (c : Dev nD) (t : Fin cfg0.N) (h0 : ¬t.val % 37 = 0) (h1 : t.val % 37 = 36) (s : Vec F S12x128 .bf16) (p : Left F) : Left F where
  out := VO0_13.read (Elt F) (VO0_13.writes (Elt F) VO0_13.junk (runC m hH c t h0 h1 s p).1)
  h := VO0_14.read (Elt F) (VO0_14.writes (Elt F) VO0_14.junk (runC m hH c t h0 h1 s p).2.1)
  t16 := VO0_16.read (Elt F) (VO0_16.writes (Elt F) VO0_16.junk (runC m hH c t h0 h1 s p).2.2.2.1)
  mg := p.mg
  mu := p.mu
  y := VS0_2.read (Elt F) (VS0_2.writes (Elt F) VS0_2.junk (runC m hH c t h0 h1 s p).2.2.2.2.2.2.1)
  tt := VS0_3.read (Elt F) (VS0_3.writes (Elt F) VS0_3.junk (runC m hH c t h0 h1 s p).2.2.2.2.2.2.2.1)
  x16 := p.x16

/-- The block of `s` the first point stores. -/
def sOf (hH : Hyps m) (c : Dev nD) (t : Fin cfg0.N) (h0 : t.val % 37 = 0) (h1 : ¬t.val % 37 = 36) : Vec F S12x128 .bf16 :=
  VO0_15.read (Elt F) (VO0_15.writes (Elt F) VO0_15.junk (runA m hH c t h0 h1).2.2.1)

theorem zero_first : (⟨0, Nat.lt_of_lt_of_eq (by decide : 0 < 37) N_0.symm⟩ : Fin cfg0.N).val % 37 = 0 := rfl

/-- The block of `s`, written at the first point and kept to the end of the launch. -/
def sAt (hH : Hyps m) (c : Dev nD) : Vec F S12x128 .bf16 :=
  sOf m hH c ⟨0, Nat.lt_of_lt_of_eq (by decide : 0 < 37) N_0.symm⟩ (by decide) (by decide)

theorem succ_ne_first {n : ℕ} (hn : n + 1 < cfg0.N) : ¬(n + 1) % 37 = 0 := by
  have hN : n + 1 < 37 := lt_of_lt_of_eq hn (show cfg0.N = 37 from N_0)
  omega

/-- What the points up to `n` leave: the first point starts it, each later one takes what the one before left. -/
def leftAt (hH : Hyps m) (c : Dev nD) : (n : ℕ) → n < cfg0.N → Left F
  | 0, hn => leftA m hH c ⟨0, hn⟩ (Nat.zero_mod _) (by simp)
  | n + 1, hn =>
    if h1 : (n + 1) % 37 = 36 then
      leftC m hH c ⟨n + 1, hn⟩ (succ_ne_first hn) h1 (sAt m hH c) (leftAt hH c n (Nat.lt_of_succ_lt hn))
    else
      leftB m hH c ⟨n + 1, hn⟩ (succ_ne_first hn) h1 (leftAt hH c n (Nat.lt_of_succ_lt hn))

/-- What the point before `t` leaves. -/
abbrev leftBefore (hH : Hyps m) (c : Dev nD) (t : Fin cfg0.N) : Left F :=
  leftAt m hH c (t.val - 1) (Nat.lt_of_le_of_lt (Nat.sub_le _ _) t.isLt)

theorem leftAt_A (hH : Hyps m) (c : Dev nD) (t : Fin cfg0.N) (h0 : t.val % 37 = 0) (h1 : ¬t.val % 37 = 36) :
    leftAt m hH c t.val t.isLt = leftA m hH c t h0 h1 := by
  obtain ⟨n, hn⟩ := t
  cases n with
  | zero => rfl
  | succ n => exact absurd h0 (succ_ne_first hn)

theorem leftAt_B (hH : Hyps m) (c : Dev nD) (t : Fin cfg0.N) (h0 : ¬t.val % 37 = 0) (h1 : ¬t.val % 37 = 36) :
    leftAt m hH c t.val t.isLt = leftB m hH c t h0 h1 (leftBefore m hH c t) := by
  obtain ⟨n, hn⟩ := t
  cases n with
  | zero => exact absurd (Nat.zero_mod _) h0
  | succ n => exact dif_neg h1

theorem leftAt_C (hH : Hyps m) (c : Dev nD) (t : Fin cfg0.N) (h0 : ¬t.val % 37 = 0) (h1 : t.val % 37 = 36) :
    leftAt m hH c t.val t.isLt = leftC m hH c t h0 h1 (sAt m hH c) (leftBefore m hH c t) := by
  obtain ⟨n, hn⟩ := t
  cases n with
  | zero => exact absurd (Nat.zero_mod _) h0
  | succ n => exact dif_pos h1

end Cert.KernelIdeal.Body

end
-- ==== Proof.Body.Run.lean ====
/-
  The launch of the kernel: the body proved at every grid point, the pipeline's run from it, and the frame.
-/
module

public import proofs.«01_k».proof.Proof.Body.Left
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The scratch buffers hold what a point left, and the generator register anything. -/
def held (c : Dev nD) (p : Left F) : sProp (MT nD τ sig Unit (Elt F) ℕ (UR sig nD τ) ℕ) :=
  iprop(iprop(owns (c : Thread nD τ) scM0_0 fullShare (p).mg ∗ owns (c : Thread nD τ) scM0_1 fullShare (p).mu ∗ owns (c : Thread nD τ) scM0_2 fullShare (p).y ∗ owns (c : Thread nD τ) scM0_3 fullShare (p).tt ∗ owns (c : Thread nD τ) scM0_4 fullShare (p).x16) ∗ (∃ r, prngReg c r))

/-- The body's own resources before the `n`-th point. -/
def PhiS (hH : Hyps m) (c : Dev nD) : (n : ℕ) → n ≤ cfg0.N → sProp (MT nD τ sig Unit (Elt F) ℕ (UR sig nD τ) ℕ)
  | 0, _ => Pipeline.ΦA spec0 c
  | n + 1, hn => held c (leftAt m hH c n hn)

theorem PhiS_zero (hH : Hyps m) (c : Dev nD) (n : ℕ) (h : n ≤ cfg0.N) (hz : n = 0) :
    PhiS m hH c n h = Pipeline.ΦA spec0 c := by
  subst hz; rfl

theorem PhiS_pos (hH : Hyps m) (c : Dev nD) (n : ℕ) (h : n ≤ cfg0.N) (hz : n ≠ 0) :
    PhiS m hH c n h = held c (leftAt m hH c (n - 1) (by omega)) := by
  cases n with
  | zero => exact absurd rfl hz
  | succ n => rfl

/-- The pipeline's data: the contents of every window's buffer after each point. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (leftAt m hH c t.val t.isLt).out
    | ⟨14, _⟩ => (leftAt m hH c t.val t.isLt).h
    | ⟨15, _⟩ => sAt m hH c
    | ⟨16, _⟩ => (leftAt m hH c t.val t.isLt).t16
    | ⟨_ + 17, h⟩ => absurd h (Nat.not_lt.2 (Nat.le_add_left _ _))
  Φ t := PhiS m hH c t.val (Nat.le_of_lt_succ t.isLt)
  q w := Pipeline.shareOf spec0 w
  owed _ := 0

theorem A_eq (hH : Hyps m) (c : Dev nD) (w : Fin cfg0.W) : (dats m hH 0 c).A w = V m c (Pipeline.arrRef spec0 w) := by
  dsimp only [dats]

theorem PhiS_castSucc (hH : Hyps m) (c : Dev nD) (t : Fin cfg0.N) :
    (dats m hH 0 c).Φ t.castSucc = PhiS m hH c t.val (Nat.le_of_lt t.isLt) := by
  dsimp only [dats]; exact Pipeline.Dat.Φ_castSucc (PhiS m hH c) t

section
variable (hH : Hyps m) (c : Dev nD) (t : Fin cfg0.N)

theorem after0_0 : (dats m hH 0 c).after 0 t = iblk m c 0 t := by dsimp only [dats]
theorem after0_1 : (dats m hH 0 c).after 1 t = iblk m c 1 t := by dsimp only [dats]
theorem after0_2 : (dats m hH 0 c).after 2 t = iblk m c 2 t := by dsimp only [dats]
theorem after0_3 : (dats m hH 0 c).after 3 t = iblk m c 3 t := by dsimp only [dats]
theorem after0_4 : (dats m hH 0 c).after 4 t = iblk m c 4 t := by dsimp only [dats]
theorem after0_5 : (dats m hH 0 c).after 5 t = iblk m c 5 t := by dsimp only [dats]
theorem after0_6 : (dats m hH 0 c).after 6 t = iblk m c 6 t := by dsimp only [dats]
theorem after0_7 : (dats m hH 0 c).after 7 t = iblk m c 7 t := by dsimp only [dats]
theorem after0_8 : (dats m hH 0 c).after 8 t = iblk m c 8 t := by dsimp only [dats]
theorem after0_9 : (dats m hH 0 c).after 9 t = iblk m c 9 t := by dsimp only [dats]
theorem after0_10 : (dats m hH 0 c).after 10 t = iblk m c 10 t := by dsimp only [dats]
theorem after0_11 : (dats m hH 0 c).after 11 t = iblk m c 11 t := by dsimp only [dats]
theorem after0_12 : (dats m hH 0 c).after 12 t = iblk m c 12 t := by dsimp only [dats]
theorem after0_13 : (dats m hH 0 c).after 13 t = (leftAt m hH c t.val t.isLt).out := by dsimp only [dats]
theorem after0_14 : (dats m hH 0 c).after 14 t = (leftAt m hH c t.val t.isLt).h := by dsimp only [dats]
theorem after0_15 : (dats m hH 0 c).after 15 t = sAt m hH c := by dsimp only [dats]
theorem after0_16 : (dats m hH 0 c).after 16 t = (leftAt m hH c t.val t.isLt).t16 := by dsimp only [dats]

theorem before0_0 (d) : (dats m hH 0 c).before 0 t d = iblk m c 0 t :=
  before0_0_of m (dats m hH 0 c) (A_eq m hH c 0) (after0_0 m hH c) t d
theorem before0_1 (d) : (dats m hH 0 c).before 1 t d = iblk m c 1 t :=
  before0_1_of m (dats m hH 0 c) (A_eq m hH c 1) (after0_1 m hH c) t d
theorem before0_2 (d) : (dats m hH 0 c).before 2 t d = iblk m c 2 t :=
  before0_2_of m (dats m hH 0 c) (A_eq m hH c 2) (after0_2 m hH c) t d
theorem before0_3 (d) : (dats m hH 0 c).before 3 t d = iblk m c 3 t :=
  before0_3_of m (dats m hH 0 c) (A_eq m hH c 3) (after0_3 m hH c) t d
theorem before0_4 (d) : (dats m hH 0 c).before 4 t d = iblk m c 4 t :=
  before0_4_of m (dats m hH 0 c) (A_eq m hH c 4) (after0_4 m hH c) t d
theorem before0_5 (d) : (dats m hH 0 c).before 5 t d = iblk m c 5 t :=
  before0_5_of m (dats m hH 0 c) (A_eq m hH c 5) (after0_5 m hH c) t d
theorem before0_6 (d) : (dats m hH 0 c).before 6 t d = iblk m c 6 t :=
  before0_6_of m (dats m hH 0 c) (A_eq m hH c 6) (after0_6 m hH c) t d
theorem before0_7 (d) : (dats m hH 0 c).before 7 t d = iblk m c 7 t :=
  before0_7_of m (dats m hH 0 c) (A_eq m hH c 7) (after0_7 m hH c) t d
theorem before0_8 (d) : (dats m hH 0 c).before 8 t d = iblk m c 8 t :=
  before0_8_of m (dats m hH 0 c) (A_eq m hH c 8) (after0_8 m hH c) t d
theorem before0_9 (d) : (dats m hH 0 c).before 9 t d = iblk m c 9 t :=
  before0_9_of m (dats m hH 0 c) (A_eq m hH c 9) (after0_9 m hH c) t d
theorem before0_10 (d) : (dats m hH 0 c).before 10 t d = iblk m c 10 t :=
  before0_10_of m (dats m hH 0 c) (A_eq m hH c 10) (after0_10 m hH c) t d
theorem before0_11 (d) : (dats m hH 0 c).before 11 t d = iblk m c 11 t :=
  before0_11_of m (dats m hH 0 c) (A_eq m hH c 11) (after0_11 m hH c) t d
theorem before0_12 (d) : (dats m hH 0 c).before 12 t d = iblk m c 12 t :=
  before0_12_of m (dats m hH 0 c) (A_eq m hH c 12) (after0_12 m hH c) t d

theorem leaves0_0 : (dats m hH 0 c).leavesExact 0 t = owns (c : Thread nD τ) (ms0_0 t) fullShare (iblk m c 0 t) := by
  unfold Dat.leavesExact; rw [liveAt0_0 t, after0_0]
theorem leaves0_1 : (dats m hH 0 c).leavesExact 1 t = owns (c : Thread nD τ) (ms0_1 t) fullShare (iblk m c 1 t) := by
  unfold Dat.leavesExact; rw [liveAt0_1 t, after0_1]
theorem leaves0_2 : (dats m hH 0 c).leavesExact 2 t = owns (c : Thread nD τ) (ms0_2 t) fullShare (iblk m c 2 t) := by
  unfold Dat.leavesExact; rw [liveAt0_2 t, after0_2]
theorem leaves0_3 : (dats m hH 0 c).leavesExact 3 t = owns (c : Thread nD τ) (ms0_3 t) fullShare (iblk m c 3 t) := by
  unfold Dat.leavesExact; rw [liveAt0_3 t, after0_3]
theorem leaves0_4 : (dats m hH 0 c).leavesExact 4 t = owns (c : Thread nD τ) (ms0_4 t) fullShare (iblk m c 4 t) := by
  unfold Dat.leavesExact; rw [liveAt0_4 t, after0_4]
theorem leaves0_5 : (dats m hH 0 c).leavesExact 5 t = owns (c : Thread nD τ) (ms0_5 t) fullShare (iblk m c 5 t) := by
  unfold Dat.leavesExact; rw [liveAt0_5 t, after0_5]
theorem leaves0_6 : (dats m hH 0 c).leavesExact 6 t = owns (c : Thread nD τ) (ms0_6 t) fullShare (iblk m c 6 t) := by
  unfold Dat.leavesExact; rw [liveAt0_6 t, after0_6]
theorem leaves0_7 : (dats m hH 0 c).leavesExact 7 t = owns (c : Thread nD τ) (ms0_7 t) fullShare (iblk m c 7 t) := by
  unfold Dat.leavesExact; rw [liveAt0_7 t, after0_7]
theorem leaves0_8 : (dats m hH 0 c).leavesExact 8 t = owns (c : Thread nD τ) (ms0_8 t) fullShare (iblk m c 8 t) := by
  unfold Dat.leavesExact; rw [liveAt0_8 t, after0_8]
theorem leaves0_9 : (dats m hH 0 c).leavesExact 9 t = owns (c : Thread nD τ) (ms0_9 t) fullShare (iblk m c 9 t) := by
  unfold Dat.leavesExact; rw [liveAt0_9 t, after0_9]
theorem leaves0_10 : (dats m hH 0 c).leavesExact 10 t = owns (c : Thread nD τ) (ms0_10 t) fullShare (iblk m c 10 t) := by
  unfold Dat.leavesExact; rw [liveAt0_10 t, after0_10]
theorem leaves0_11 : (dats m hH 0 c).leavesExact 11 t = owns (c : Thread nD τ) (ms0_11 t) fullShare (iblk m c 11 t) := by
  unfold Dat.leavesExact; rw [liveAt0_11 t, after0_11]
theorem leaves0_12 : (dats m hH 0 c).leavesExact 12 t = owns (c : Thread nD τ) (ms0_12 t) fullShare (iblk m c 12 t) := by
  unfold Dat.leavesExact; rw [liveAt0_12 t, after0_12]
theorem leaves0_14 : (dats m hH 0 c).leavesExact 14 t = owns (c : Thread nD τ) (ms0_14 t) fullShare ((leftAt m hH c t.val t.isLt).h) := by
  unfold Dat.leavesExact; rw [liveAt0_14 t, after0_14]

end

/-- At the last point the buffer of `s` still holds what the first point stored. -/
theorem before0_15_C (hH : Hyps m) (c : Dev nD) (t : Fin cfg0.N) (h0 : ¬t.val % 37 = 0) (h1 : t.val % 37 = 36) (d) :
    (dats m hH 0 c).before 15 t d = sAt m hH c := by
  rw [Dat.before_out_traj _ 15 rfl (fun _ _ => rfl) (fun _ _ _ _ => rfl) t.val t rfl d,
    if_neg (by rw [notFresh0_15_C t (fun h => h0 ((hcond0_0 t).mp h)) ((hcond0_1 t).mpr h1)]; exact Bool.false_ne_true)]
  dsimp only [dats]

/-- A buffer holding recorded writes that cover it holds their contents, read back over anything. -/
theorem owns_of_pieces {sp : Space} {s : Shape} {e : EltTy} (c : Dev nD) (M : Memref sig .tc sp s e)
    {sp' : Space} (v : View sig .tc sp' s e) (f : v.ty.Contents (Elt F)) (L : List (View.Piece (Elt F) s e))
    (h : ∀ y, ∃ p ∈ L, y ∈ p.1.set) :
    iprop(∃ g, M.view.loc (c : Thread nD τ) ↦[M.view.set]{fullShare} M.view.writes (Elt F) g L)
      ⊢ (owns (c : Thread nD τ) M fullShare (v.read (Elt F) (v.writes (Elt F) f L)) : sProp (MT nD τ sig Unit (Elt F) ℕ (UR sig nD τ) ℕ)) := by
  iintro ⟨%g, H⟩
  unfold owns; iexists _; isplitr
  swap; · iexact H
  ipureintro; exact View.read_writes_of_cover _ _ _ _ _ h

/-- What the pipeline hands the body at a point. -/
def bodyPre (hH : Hyps m) (c : Dev nD) (t : Fin cfg0.N) : sProp (MT nD τ sig Unit (Elt F) ℕ (UR sig nD τ) ℕ) :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d))
    ∗ (∃ d, owns (c : Thread nD τ) (ms0_11 t) fullShare ((dats m hH 0 c).before 11 t d))
    ∗ (∃ d, owns (c : Thread nD τ) (ms0_12 t) fullShare ((dats m hH 0 c).before 12 t d))
    ∗ (∃ d, owns (c : Thread nD τ) (ms0_13 t) fullShare ((dats m hH 0 c).before 13 t d))
    ∗ (∃ d, owns (c : Thread nD τ) (ms0_14 t) fullShare ((dats m hH 0 c).before 14 t d))
    ∗ (∃ d, owns (c : Thread nD τ) (ms0_15 t) fullShare ((dats m hH 0 c).before 15 t d))
    ∗ (∃ d, owns (c : Thread nD τ) (ms0_16 t) fullShare ((dats m hH 0 c).before 16 t d)))

/-- What the body hands back. -/
def bodyPost (hH : Hyps m) (c : Dev nD) (t : Fin cfg0.N) : sProp (MT nD τ sig Unit (Elt F) ℕ (UR sig nD τ) ℕ) :=
  iprop((dats m hH 0 c).Φ t.succ ∗ (dats m hH 0 c).owesAt () t.succ
    ∗ (dats m hH 0 c).leavesExact 0 t
    ∗ (dats m hH 0 c).leavesExact 1 t
    ∗ (dats m hH 0 c).leavesExact 2 t
    ∗ (dats m hH 0 c).leavesExact 3 t
    ∗ (dats m hH 0 c).leavesExact 4 t
    ∗ (dats m hH 0 c).leavesExact 5 t
    ∗ (dats m hH 0 c).leavesExact 6 t
    ∗ (dats m hH 0 c).leavesExact 7 t
    ∗ (dats m hH 0 c).leavesExact 8 t
    ∗ (dats m hH 0 c).leavesExact 9 t
    ∗ (dats m hH 0 c).leavesExact 10 t
    ∗ (dats m hH 0 c).leavesExact 11 t
    ∗ (dats m hH 0 c).leavesExact 12 t
    ∗ (dats m hH 0 c).leavesExact 13 t
    ∗ (dats m hH 0 c).leavesExact 14 t
    ∗ (dats m hH 0 c).leavesExact 15 t
    ∗ (dats m hH 0 c).leavesExact 16 t)

set_option maxHeartbeats 24000000 in
/-- The body at the first point. -/
theorem sound_A (hH : Hyps m) (c : Dev nD) (t : Fin cfg0.N) (h0 : t.val % 37 = 0) (h1 : ¬t.val % 37 = 36) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8, before0_9, before0_10, before0_11, before0_12, leaves0_0, leaves0_1, leaves0_2, leaves0_3, leaves0_4, leaves0_5, leaves0_6, leaves0_7, leaves0_8, leaves0_9, leaves0_10, leaves0_11, leaves0_12, leaves0_14]
  rw [show (dats m hH 0 c).owesAt () t.succ = (dats m hH 0 c).owesAt () t.castSucc from rfl]
  rw [show (dats m hH 0 c).Φ t.succ = held c (leftAt m hH c t.val t.isLt) from rfl, PhiS_castSucc m hH c t]
  have hN : t.val < 37 := lt_of_lt_of_eq t.isLt (show cfg0.N = 37 from N_0)
  have hz : t.val = 0 := by omega
  rw [Dat.leavesExact_idle (dats m hH 0 c) 13 t (idleAt0_13_A t ((hcond0_0 t).mpr h0) (fun h => h1 ((hcond0_1 t).mp h))) (noFlush0_13_A t ((hcond0_0 t).mpr h0) (fun h => h1 ((hcond0_1 t).mp h))),
    Dat.leavesExact_idle (dats m hH 0 c) 16 t (idleAt0_16_A t ((hcond0_0 t).mpr h0) (fun h => h1 ((hcond0_1 t).mp h))) (noFlush0_16_A t ((hcond0_0 t).mpr h0) (fun h => h1 ((hcond0_1 t).mp h)))]
  rw [show (dats m hH 0 c).leavesExact 15 t = owns (c : Thread nD τ) (ms0_15 t) fullShare (sOf m hH c t h0 h1) from by
    unfold Dat.leavesExact; rw [liveAt0_15_A t ((hcond0_0 t).mpr h0) (fun h => h1 ((hcond0_1 t).mp h)), after0_15]
    obtain ⟨n, hn⟩ := t; cases hz; rfl]
  rw [PhiS_zero m hH c _ _ hz, PhiA0_eq, leftAt_A m hH c t h0 h1]
  unfold held leftA sOf
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runA m hH c t h0 h1).2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, HS0, HS1, HS2, HS3, HS4⟩
  isplitl [HS0 HS1 HS2 HS3 HS4 Hg]
  · isplitl [HS0 HS1 HS2 HS3 HS4]
    · isplitl [HS0]; · iapply (owns_of_pieces c _ VS0_0 VS0_0.junk _ (coverA_mg m hH c t h0 h1)); iexact HS0
      isplitl [HS1]; · iapply (owns_of_pieces c _ VS0_1 VS0_1.junk _ (coverA_mu m hH c t h0 h1)); iexact HS1
      isplitl [HS2]; · iapply (owns_of_pieces c _ VS0_2 VS0_2.junk _ (coverA_y m hH c t h0 h1)); iexact HS2
      isplitl [HS3]; · iapply (owns_of_pieces c _ VS0_3 VS0_3.junk _ (coverA_tt m hH c t h0 h1)); iexact HS3
      iapply (owns_of_pieces c _ VS0_4 VS0_4.junk _ (coverA_x16 m hH c t h0 h1)); iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iapply (owns_of_pieces c _ VO0_14 VO0_14.junk _ (coverA_h m hH c t h0 h1)); iexact H14
  isplitl [H15]; · iapply (owns_of_pieces c _ VO0_15 VO0_15.junk _ (coverA_s m hH c t h0 h1)); iexact H15
  iexists _; iexact H16

set_option maxHeartbeats 24000000 in
/-- The body at a middle point. -/
theorem sound_B (hH : Hyps m) (c : Dev nD) (t : Fin cfg0.N) (h0 : ¬t.val % 37 = 0) (h1 : ¬t.val % 37 = 36) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8, before0_9, before0_10, before0_11, before0_12, leaves0_0, leaves0_1, leaves0_2, leaves0_3, leaves0_4, leaves0_5, leaves0_6, leaves0_7, leaves0_8, leaves0_9, leaves0_10, leaves0_11, leaves0_12, leaves0_14]
  rw [show (dats m hH 0 c).owesAt () t.succ = (dats m hH 0 c).owesAt () t.castSucc from rfl]
  rw [show (dats m hH 0 c).Φ t.succ = held c (leftAt m hH c t.val t.isLt) from rfl, PhiS_castSucc m hH c t]
  have hN : t.val < 37 := lt_of_lt_of_eq t.isLt (show cfg0.N = 37 from N_0)
  rw [Dat.leavesExact_idle (dats m hH 0 c) 13 t (idleAt0_13_B t (fun h => h0 ((hcond0_0 t).mp h)) (fun h => h1 ((hcond0_1 t).mp h))) (noFlush0_13_B t (fun h => h0 ((hcond0_0 t).mp h)) (fun h => h1 ((hcond0_1 t).mp h))),
    Dat.leavesExact_idle (dats m hH 0 c) 15 t (idleAt0_15_B t (fun h => h0 ((hcond0_0 t).mp h)) (fun h => h1 ((hcond0_1 t).mp h))) (noFlush0_15_B t (fun h => h0 ((hcond0_0 t).mp h)) (fun h => h1 ((hcond0_1 t).mp h))),
    Dat.leavesExact_idle (dats m hH 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
  rw [PhiS_pos m hH c _ _ (by omega), leftAt_B m hH c t h0 h1]
  unfold held leftB
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runB m hH c t h0 h1 (leftBefore m hH c t)).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iapply (owns_of_pieces c _ VS0_2 VS0_2.junk _ (coverB_y m hH c t h0 h1 (leftBefore m hH c t))); iexact HS2
      isplitl [HS3]; · iapply (owns_of_pieces c _ VS0_3 VS0_3.junk _ (coverB_tt m hH c t h0 h1 (leftBefore m hH c t))); iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iapply (owns_of_pieces c _ VO0_14 VO0_14.junk _ (coverB_h m hH c t h0 h1 (leftBefore m hH c t))); iexact H14
  isplitl [H15]; · iexists _; iexact H15
  iexists _; iexact H16

set_option maxHeartbeats 24000000 in
/-- The body at the last point. -/
theorem sound_C (hH : Hyps m) (c : Dev nD) (t : Fin cfg0.N) (h0 : ¬t.val % 37 = 0) (h1 : t.val % 37 = 36) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8, before0_9, before0_10, before0_11, before0_12, leaves0_0, leaves0_1, leaves0_2, leaves0_3, leaves0_4, leaves0_5, leaves0_6, leaves0_7, leaves0_8, leaves0_9, leaves0_10, leaves0_11, leaves0_12, leaves0_14]
  rw [show (dats m hH 0 c).owesAt () t.succ = (dats m hH 0 c).owesAt () t.castSucc from rfl]
  rw [show (dats m hH 0 c).Φ t.succ = held c (leftAt m hH c t.val t.isLt) from rfl, PhiS_castSucc m hH c t]
  have hN : t.val < 37 := lt_of_lt_of_eq t.isLt (show cfg0.N = 37 from N_0)
  rw [show (dats m hH 0 c).leavesExact 13 t = owns (c : Thread nD τ) (ms0_13 t) fullShare ((leftAt m hH c t.val t.isLt).out) from by
      unfold Dat.leavesExact; rw [liveAt0_13_C t (fun h => h0 ((hcond0_0 t).mp h)) ((hcond0_1 t).mpr h1), after0_13],
    show (dats m hH 0 c).leavesExact 15 t = owns (c : Thread nD τ) (ms0_15 t) fullShare (sAt m hH c) from by
      unfold Dat.leavesExact; rw [idleAt0_15_C t (fun h => h0 ((hcond0_0 t).mp h)) ((hcond0_1 t).mpr h1), flushAt0_15_C t (fun h => h0 ((hcond0_0 t).mp h)) ((hcond0_1 t).mpr h1), after0_15],
    show (dats m hH 0 c).leavesExact 16 t = owns (c : Thread nD τ) (ms0_16 t) fullShare ((leftAt m hH c t.val t.isLt).t16) from by
      unfold Dat.leavesExact; rw [liveAt0_16_C t (fun h => h0 ((hcond0_0 t).mp h)) ((hcond0_1 t).mpr h1), after0_16]]
  simp only [before0_15_C m hH c t h0 h1]
  rw [PhiS_pos m hH c _ _ (by omega), leftAt_C m hH c t h0 h1]
  unfold held leftC
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runC m hH c t h0 h1 (sAt m hH c) (leftBefore m hH c t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexact H15
  isplitl [H16]; · iexists _; iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iapply (owns_of_pieces c _ VS0_2 VS0_2.junk _ (coverC_y m hH c t h0 h1 (sAt m hH c) (leftBefore m hH c t))); iexact HS2
      isplitl [HS3]; · iapply (owns_of_pieces c _ VS0_3 VS0_3.junk _ (coverC_tt m hH c t h0 h1 (sAt m hH c) (leftBefore m hH c t))); iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (owns_of_pieces c _ VO0_13 VO0_13.junk _ (coverC_out m hH c t h0 h1 (sAt m hH c) (leftBefore m hH c t))); iexact H13
  isplitl [H14]; · iapply (owns_of_pieces c _ VO0_14 VO0_14.junk _ (coverC_h m hH c t h0 h1 (sAt m hH c) (leftBefore m hH c t))); iexact H14
  isplitl [H15]; · iexact H15
  iapply (owns_of_pieces c _ VO0_16 VO0_16.junk _ (coverC_t16 m hH c t h0 h1 (sAt m hH c) (leftBefore m hH c t))); iexact H16

theorem sound_body (hH : Hyps m) (c : Dev nD) (t : Fin cfg0.N) :
    bodyPre m hH c t ⊢ wp frame (wpE (defs₀ (F := F)) Variants.none c none) Set.univ (bodyAt0 t) (fun _ => bodyPost m hH c t) := by
  by_cases h0 : t.val % 37 = 0
  · exact sound_A m hH c t h0 (by omega)
  · by_cases h1 : t.val % 37 = 36
    · exact sound_C m hH c t h0 h1
    · exact sound_B m hH c t h0 h1

theorem defs₀_row (t : Fin cfg0.N) :
    defs₀ (F := F) .tc cfg0.body (cfg0.bodyArgs t (cfg0.slots t)) = bodyAt0 t := by
  unfold defs₀; rw [Defs.onTc_tc]

theorem body_obligation (hH : Hyps m) (c : Dev nD) :
    BodyObligation (dats (F := F) m hH 0 c) (defs₀ (F := F)) Variants.none () Set.univ := fun t => by
  rw [bigSep_W0, bigSep_W0, defs₀_row]
  exact triple_restated (sound_body m hH c t) rfl .rfl fun _ => .rfl

theorem hin (hH : Hyps m) (c : Dev nD) : Pipeline.ΦA spec0 c ⊢ (dats m hH 0 c).Φ 0 := by
  rw [show (dats m hH 0 c).Φ 0 = PhiS m hH c 0 (Nat.zero_le _) from rfl, PhiS_zero m hH c 0 _ rfl]
  try exact Idealize.SL.BI.Entails.refl _

theorem Phi_out (hH : Hyps m) (c : Dev nD) (t : Fin (cfg0.N + 1)) (ht : t.val ≠ 0) : (dats m hH 0 c).Φ t ⊢ Pipeline.ΦA spec0 c := by
  rw [show (dats m hH 0 c).Φ t = PhiS m hH c t.val (Nat.le_of_lt_succ t.isLt) from rfl, PhiS_pos m hH c _ _ ht, PhiA0_eq]
  unfold held
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

theorem hout (hH : Hyps m) (c : Dev nD) : (dats m hH 0 c).Φ (Fin.last cfg0.N) ⊢ Pipeline.ΦA spec0 c :=
  Phi_out m hH c _ (by rw [Fin.val_last]; have : cfg0.N = 37 := N_0; omega)

-- the launch theorem's implicit arguments are found by unifying its conclusion with this one, which takes unfolding plain
-- definitions in a metavariable's type
set_option backward.isDefEq.respectTransparency.types false in
/-- The kernel's program runs to an end, every result array at what its window's write-backs leave, every counter zero. -/
theorem run_main_quiescent (hH : Hyps m) : θ_run defs (onTc (τ := τ) (main (F := F))) (s₀ m ρ)
    (fun r => (Pipeline.FramePost cfgs (dats m hH) 0 (V m)) r ∧ r.2.sem = fun _ => 0) :=
  Pipeline.θ_run_frame_track_shared (Q' := _) cfgs (dats m hH) (0 : Fin 1) launch₀0 defs₀ Variants.none m ρ main
    (hbody := fun c => (body_obligation m hH c).loose) (hq := fun _ _ _ => rfl)
    (howed := fun _ _ => rfl) (V := V m) (hmain := hmain m Variants.none) (hA := A_eq m hH) (hin := hin m hH) (hout := hout m hH)

theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m hH) (A_eq m hH) (run_main m ρ hH)

/-- The frame: the program ends, its arguments unchanged, every counter zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hH) ((θ_run defs _ _).mono (fun _ h => h.2) (run_main_quiescent m ρ hH))

end Cert.KernelIdeal.Body

end
-- ==== Proof.Frames.lean ====
/-
  The kernel and its idealization are printed with the same operations: with no rewrites, the two programs differ in their names alone.
  So the frame proved once of that program, over any float operations, is the frame of both.
-/
module

public import proofs.«01_k».proof.Defs
public import proofs.«01_k».proof.Proof.Gen.Kernel
public import proofs.«01_k».proof.Proof.Gen.Pre_adapters_exist
public import proofs.«01_k».proof.Proof.Words
public import proofs.«01_k».proof.Proof.Body.Run

@[expose] public section

set_option maxRecDepth 16384
set_option maxHeartbeats 4000000

noncomputable section

namespace Cert.Proof

open Cert.KernelIdeal
open Idealize.ShloMosaic Idealize.ShloMosaic.TcCoe Idealize.SL.Sem

local instance : Cert.Kernel.Facts := Cert.Kernel.Gen.facts
local instance : Cert.KernelIdeal.Facts := Cert.KernelIdeal.Gen.facts
local instance : Cert.Pre_adapters_exist.Facts := Cert.Pre_adapters_exist.Gen.facts

/-- The frame of the idealization's program read over machine floats. -/
def AtBits : Prop :=
  ∀ (m : (ℓ : Loc nD τ sig) → Buf (Elt Bits) ℓ) (g : Dev nD → PrngReg), (∀ c : Dev nD,
    (Cert.Pre_adapters_exist.fn (F := Bits) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) = (fun _ => 1#1)) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0)

/-- It is the kernel's frame: the two programs are one but for their names. -/
theorem kernel_is_atBits : Cert.quiescent_Kernel = AtBits := by sl_kernel_rfl

/-- The kernel ends with its arguments unchanged and every counter at zero. -/
theorem frame_kernel : Cert.quiescent_Kernel :=
  kernel_is_atBits.mpr fun m g h => Body.frame m g (Body.hyps_of_words m fun c => word_lt (h c))

/-- So does its idealization. -/
theorem frame_ideal : Cert.quiescent_KernelIdeal := fun m g h =>
  Body.frame m g (Body.hyps_of_words m fun c => word_lt (h c))

end Cert.Proof

end
-- ==== Proof.Value.Chunk.lean ====
/-
  The quantised product of the body, over the extended reals: a block of int4 words is unpacked and scaled, multiplied by a slice of the
  activations and added to the running sum, chunk by chunk; in all, one sum over the whole contraction.
-/
module

public import proofs.«01_k».proof.Proof.Gen.KernelIdeal.Skeleton
public import proofs.«01_k».proof.Proof.Gen.KernelIdeal
public import Idealize.ShloMosaic.Lib.Pointwise
public import Idealize.ShloMosaic.Lib.Pipeline.ValueKit

@[expose] public section

set_option maxRecDepth 16384

noncomputable section

namespace Cert.KernelIdeal.Val

open Cert.KernelIdeal.Gen
open Idealize.ShloMosaic Idealize.ShloMosaic.TcCoe Idealize.SL.Sem

local instance : Cert.KernelIdeal.Facts := Cert.KernelIdeal.Gen.facts

/-- Field `j` of a packed word, the low one first: its four bits as a signed integer, read as an extended real. -/
def nib (w : BitVec 32) (j : ℕ) : EReal :=
  FloatOps.sitofp (F := Ideal) .bf16 (IntOp.shrsi ArithUnit.vector
    (IntOp.shli ArithUnit.vector w (IntOp.subi 28#32 (IntOp.muli 4#32 (BitVec.ofNat 32 j)))) 28#32)

/-- One chunk of the gate (or up) projection: the words unpacked, scaled, multiplied and added. -/
abbrev chunk (acc : FVec Ideal S16x512 .f32) (x : FVec Ideal S16x256 .bf16) (w : IVec S32x512 32) (s : FVec Ideal S2x512 .bf16) :
    FVec Ideal S16x512 .f32 :=
  k0_pay42 acc x (k0_pay41 (F := Ideal) w s)

/-- A chunk at an index. -/
theorem chunk_apply (acc : FVec Ideal S16x512 .f32) (x : FVec Ideal S16x256 .bf16) (w : IVec S32x512 32) (s : FVec Ideal S2x512 .bf16)
    (a : Fin 16) (f : Fin 512) :
    chunk acc x w s (ix2 a f) = acc (ix2 a f) + ∑ k : Fin 256, x (ix2 a k) *
      (nib (w (ix2 ⟨k.val / 8, by omega⟩ f)) (k.val % 8) * s (ix2 ⟨k.val / 128, by omega⟩ f)) := by
  have e (w : FVec Ideal S256x512 .bf16) : k0_pay42 acc x w (ix2 a f) = acc (ix2 a f) + ∑ q : Fin 256, x (ix2 a q) * w (ix2 q f) := by
    pointwise [k0_pay42]
  have d (k : Fin 256) : k0_pay41 (F := Ideal) w s (ix2 k f) =
      nib (w (ix2 ⟨k.val / 8, by omega⟩ f)) (k.val % 8) * s (ix2 ⟨k.val / 128, by omega⟩ f) := by
    pointwise [k0_pay41, nib]
  rw [chunk, e]
  simp only [d]

/-- Columns `256 n …` of the activations. -/
abbrev xCols (x : FVec Ideal S16x3584 .bf16) (n : ℕ) (h : n + 1 ≤ 14) : FVec Ideal S16x256 .bf16 :=
  View.ld (Val := Elt Ideal) (e' := .bf16) x (Rect.unit (s := S16x3584) ![0, 256 * n] ![16, 256]
    (by intro a; fin_cases a <;> simp [Shape.size] <;> omega))

/-- Rows `32 n …` of the words. -/
abbrev wRows (w : IVec S448x512 32) (n : ℕ) (h : n + 1 ≤ 14) : IVec S32x512 32 :=
  View.ld (Val := Elt Ideal) (e' := .i32) w (Rect.unit (s := S448x512) ![32 * n, 0] ![32, 512]
    (by intro a; fin_cases a <;> simp [Shape.size] <;> omega))

/-- Rows `2 n …` of the scales. -/
abbrev sRows (s : FVec Ideal S28x512 .bf16) (n : ℕ) (h : n + 1 ≤ 14) : FVec Ideal S2x512 .bf16 :=
  View.ld (Val := Elt Ideal) (e' := .bf16) s (Rect.unit (s := S28x512) ![2 * n, 0] ![2, 512]
    (by intro a; fin_cases a <;> simp [Shape.size] <;> omega))

/-- The first `n` chunks, one after the other. -/
def proj (acc : FVec Ideal S16x512 .f32) (x : FVec Ideal S16x3584 .bf16) (w : IVec S448x512 32) (s : FVec Ideal S28x512 .bf16) :
    (n : ℕ) → n ≤ 14 → FVec Ideal S16x512 .f32
  | 0, _ => acc
  | n + 1, h => chunk (proj acc x w s n (Nat.le_of_succ_le h)) (xCols x n h) (wRows w n h) (sRows s n h)

/-- The term of the projection at place `d` of the contraction. -/
def projTerm (x : FVec Ideal S16x3584 .bf16) (w : IVec S448x512 32) (s : FVec Ideal S28x512 .bf16) (a : Fin 16) (f : Fin 512)
    (d : Fin 3584) : EReal :=
  x (ix2 a d) * (nib (w (ix2 ⟨d.val / 8, by omega⟩ f)) (d.val % 8) * s (ix2 ⟨d.val / 128, by omega⟩ f))

theorem proj_apply (acc : FVec Ideal S16x512 .f32) (x : FVec Ideal S16x3584 .bf16) (w : IVec S448x512 32) (s : FVec Ideal S28x512 .bf16)
    (a : Fin 16) (f : Fin 512) : ∀ (n : ℕ) (h : n ≤ 14),
    proj acc x w s n h (ix2 a f) = acc (ix2 a f) + ∑ c : Fin n, ∑ k : Fin 256, projTerm x w s a f ⟨256 * c.val + k.val, by omega⟩
  | 0, _ => by simp [proj]
  | n + 1, h => by
    rw [proj, chunk_apply, proj_apply acc x w s a f n (Nat.le_of_succ_le h), Fin.sum_univ_castSucc (n := n), ← add_assoc]
    congr 1
    refine Finset.sum_congr rfl fun k _ => ?_
    have hx : xCols x n h (ix2 a k) = x (ix2 a ⟨256 * n + k.val, by omega⟩) := by pointwise [xCols]
    have hw : wRows w n h (ix2 ⟨k.val / 8, by omega⟩ f) = w (ix2 ⟨32 * n + k.val / 8, by omega⟩ f) := by pointwise [wRows]
    have hs : sRows s n h (ix2 ⟨k.val / 128, by omega⟩ f) = s (ix2 ⟨2 * n + k.val / 128, by omega⟩ f) := by pointwise [sRows]
    have e8 : 32 * n + k.val / 8 = (256 * n + k.val) / 8 := by omega
    have e128 : 2 * n + k.val / 128 = (256 * n + k.val) / 128 := by omega
    have em : k.val % 8 = (256 * n + k.val) % 8 := by omega
    simp only [hx, hw, hs, projTerm, Fin.val_last, e8, e128, em]

/-- All fourteen chunks: one sum over the 3584 places. -/
theorem proj_all (acc : FVec Ideal S16x512 .f32) (x : FVec Ideal S16x3584 .bf16) (w : IVec S448x512 32) (s : FVec Ideal S28x512 .bf16)
    (a : Fin 16) (f : Fin 512) :
    proj acc x w s 14 le_rfl (ix2 a f) = acc (ix2 a f) + ∑ d : Fin 3584, projTerm x w s a f d := by
  rw [proj_apply]
  congr 1
  refine Fin.sum_mul_add_congr fun c k hl => ?_
  congr 2
  omega

end Cert.KernelIdeal.Val

end
-- ==== Proof.Value.Spec.lean ====
/-
  The four results as sums over plain functions of the arguments: the adapter factor `s`, the hidden activations `h`, the
  down projection's adapter factor `t` and the output.
-/
module

public import proofs.«01_k».proof.Proof.Value.Chunk

@[expose] public section

noncomputable section

namespace Cert.Spec

open Idealize.ShloMosaic
open Cert.KernelIdeal.Val (nib)

/-- The arguments, each as a function of its coordinates; `n a` is the adapter that row `a` names. -/
structure Args where
  x : Fin 12 → Fin 3584 → EReal
  n : Fin 12 → Fin 5
  W : Fin 448 → Fin 37888 → BitVec 32
  S : Fin 28 → Fin 37888 → EReal
  Wd : Fin 2368 → Fin 3584 → BitVec 32
  Sd : Fin 148 → Fin 3584 → EReal
  A : Fin 5 → Fin 3584 → Fin 128 → EReal
  B : Fin 5 → Fin 2 → Fin 64 → Fin 18944 → EReal
  Ad : Fin 5 → Fin 18944 → Fin 64 → EReal
  Bd : Fin 5 → Fin 64 → Fin 3584 → EReal
  sc : Fin 5 → EReal

variable (P : Args)

/-- The row's activations times its adapter's first factor, scaled. -/
def s (a : Fin 12) (l : Fin 128) : EReal := (∑ d : Fin 3584, P.x a d * P.A (P.n a) d l) * P.sc (P.n a)

/-- The term of the gate-and-up projection at place `d` of its contraction. -/
def projTerm (a : Fin 12) (j : Fin 37888) (d : Fin 3584) : EReal :=
  P.x a d * (nib (P.W ⟨d.val / 8, by omega⟩ j) (d.val % 8) * P.S ⟨d.val / 128, by omega⟩ j)

/-- The gate: the adapter's share and the quantised projection. -/
def gate (a : Fin 12) (f : Fin 18944) : EReal :=
  (∑ r : Fin 64, s P a ⟨r.val, by omega⟩ * P.B (P.n a) 0 r f) + ∑ d : Fin 3584, projTerm P a ⟨f.val, by omega⟩ d

/-- The up projection, likewise, from the second half of the columns. -/
def up (a : Fin 12) (f : Fin 18944) : EReal :=
  (∑ r : Fin 64, s P a ⟨64 + r.val, by omega⟩ * P.B (P.n a) 1 r f) + ∑ d : Fin 3584, projTerm P a ⟨18944 + f.val, by omega⟩ d

/-- The hidden activations. -/
def h (a : Fin 12) (f : Fin 18944) : EReal := gate P a f * Ideal.logistic (gate P a f) * up P a f

/-- The term of the down projection at place `f` of its contraction. -/
def downTerm (a : Fin 12) (d : Fin 3584) (f : Fin 18944) : EReal :=
  h P a f * (nib (P.Wd ⟨f.val / 8, by omega⟩ d) (f.val % 8) * P.Sd ⟨f.val / 128, by omega⟩ d)

/-- The hidden activations times the row's adapter's second factor, scaled. -/
def t (a : Fin 12) (r : Fin 64) : EReal := (∑ f : Fin 18944, h P a f * P.Ad (P.n a) f r) * P.sc (P.n a)

/-- The output: the quantised down projection and the adapter's share. -/
def out (a : Fin 12) (d : Fin 3584) : EReal :=
  (∑ f : Fin 18944, downTerm P a d f) + ∑ r : Fin 64, t P a r * P.Bd (P.n a) r d

end Cert.Spec

end
-- ==== Proof.Value.Blocks.lean ====
/-
  The blocks a grid point finds, element by element, as elements of the arguments.
-/
module

public import proofs.«01_k».proof.Proof.Value.Spec
public import proofs.«01_k».proof.Proof.Body.Left
public import Idealize.ShloMosaic.Lib.Pipeline.ReadBack

@[expose] public section

set_option maxRecDepth 16384

noncomputable section

namespace Cert.KernelIdeal.Val

open Cert.KernelIdeal.Gen Cert.KernelIdeal.Body
open Idealize.ShloMosaic Idealize.ShloMosaic.TcCoe Idealize.SL.Sem

local instance : Cert.KernelIdeal.Facts := Cert.KernelIdeal.Gen.facts

variable (m : (ℓ : Loc nD τ sig) → Buf (Elt Ideal) ℓ) (c : Dev nD)

/-- The kernel's arguments on core `c`, as plain functions. -/
def args : Cert.Spec.Args where
  x a d := m ((c.tc : Thread nD τ).loc main_arg0) (ix3 a 0 d)
  n a := ⟨(m ((c.tc : Thread nD τ).loc main_arg1) (ix1 a) : BitVec 32).toNat % 5, Nat.mod_lt _ (by decide)⟩
  W k j := m ((c.tc : Thread nD τ).loc main_arg2) (ix2 k j)
  S k j := m ((c.tc : Thread nD τ).loc main_arg3) (ix2 k j)
  Wd k d := m ((c.tc : Thread nD τ).loc main_arg4) (ix2 k d)
  Sd k d := m ((c.tc : Thread nD τ).loc main_arg5) (ix2 k d)
  A n d l := m ((c.tc : Thread nD τ).loc main_arg6) (ix3 n d l)
  B n e r f := m ((c.tc : Thread nD τ).loc main_arg7) (ix4 n e r f)
  Ad n f r := m ((c.tc : Thread nD τ).loc main_arg8) (ix3 n f r)
  Bd n r d := m ((c.tc : Thread nD τ).loc main_arg9) (ix3 n r d)
  sc n := m ((c.tc : Thread nD τ).loc main_arg10) (ix1 n)

theorem N_eq : cfg0.N = 37 := N_0

theorem t_lt (t : Fin cfg0.N) : t.val < 37 := lt_of_lt_of_eq t.isLt N_eq

set_option maxHeartbeats 1000000

/-- Where each window's block lies at point `t`. -/
theorem idx3 : ∀ t : Fin cfg0.N, (cfg0.win 3).index t = ![0, t.val] := by decide +kernel
theorem idx4 : ∀ t : Fin cfg0.N, (cfg0.win 4).index t = ![0, t.val + 37] := by decide +kernel
theorem idx5 : ∀ t : Fin cfg0.N, (cfg0.win 5).index t = ![0, t.val] := by decide +kernel
theorem idx6 : ∀ t : Fin cfg0.N, (cfg0.win 6).index t = ![0, t.val + 37] := by decide +kernel
theorem idx7 : ∀ t : Fin cfg0.N, (cfg0.win 7).index t = ![t.val, 0] := by decide +kernel
theorem idx8 : ∀ t : Fin cfg0.N, (cfg0.win 8).index t = ![0, 0] := by decide +kernel
theorem idx9 : ∀ t : Fin cfg0.N, (cfg0.win 9).index t = ![0, 0, 0] := by decide +kernel
theorem idx10 : ∀ t : Fin cfg0.N, (cfg0.win 10).index t = ![0, 0, 0, t.val] := by decide +kernel
theorem idx11 : ∀ t : Fin cfg0.N, (cfg0.win 11).index t = ![0, 0, t.val] := by decide +kernel
theorem idx12 : ∀ t : Fin cfg0.N, (cfg0.win 12).index t = ![0, 0, 0] := by decide +kernel
theorem idx2 : ∀ t : Fin cfg0.N, (cfg0.win 2).index t = ![0, 0] := by decide +kernel
theorem idx0 : ∀ t : Fin cfg0.N, (cfg0.win 0).index t = ![0] := by decide +kernel
theorem idx1 : ∀ t : Fin cfg0.N, (cfg0.win 1).index t = ![0] := by decide +kernel

theorem blk0 (t : Fin cfg0.N) (a : Fin 12) : iblk m c 0 t (ix1 a) = m ((c.tc : Thread nD τ).loc main_arg1) (ix1 a) := by
  have e := idx0 t
  blk_ext [iblk, V, e]

theorem blk1 (t : Fin cfg0.N) (k : Fin 5) : iblk m c 1 t (ix1 k) = (args m c).sc k := by
  have e := idx1 t
  unfold args
  blk_ext [iblk, V, e]

theorem blk3 (t : Fin cfg0.N) (k : Fin 448) (f : Fin 512) :
    iblk m c 3 t (ix2 k f) = (args m c).W k ⟨512 * t.val + f.val, by have := t_lt t; omega⟩ := by
  have e := idx3 t
  have := t_lt t
  unfold args
  blk_ext [iblk, V, e]

theorem blk4 (t : Fin cfg0.N) (k : Fin 448) (f : Fin 512) :
    iblk m c 4 t (ix2 k f) = (args m c).W k ⟨18944 + (512 * t.val + f.val), by have := t_lt t; omega⟩ := by
  have e := idx4 t
  have := t_lt t
  unfold args
  blk_ext [iblk, V, e]

theorem blk5 (t : Fin cfg0.N) (k : Fin 28) (f : Fin 512) :
    iblk m c 5 t (ix2 k f) = (args m c).S k ⟨512 * t.val + f.val, by have := t_lt t; omega⟩ := by
  have e := idx5 t
  have := t_lt t
  unfold args
  blk_ext [iblk, V, e]

theorem blk6 (t : Fin cfg0.N) (k : Fin 28) (f : Fin 512) :
    iblk m c 6 t (ix2 k f) = (args m c).S k ⟨18944 + (512 * t.val + f.val), by have := t_lt t; omega⟩ := by
  have e := idx6 t
  have := t_lt t
  unfold args
  blk_ext [iblk, V, e]

theorem blk7 (t : Fin cfg0.N) (k : Fin 64) (d : Fin 3584) :
    iblk m c 7 t (ix2 k d) = (args m c).Wd ⟨64 * t.val + k.val, by have := t_lt t; omega⟩ d := by
  have e := idx7 t
  have := t_lt t
  unfold args
  blk_ext [iblk, V, e]

theorem blk9 (t : Fin cfg0.N) (n : Fin 5) (d : Fin 3584) (l : Fin 128) : iblk m c 9 t (ix3 n d l) = (args m c).A n d l := by
  have e := idx9 t
  unfold args
  blk_ext [iblk, V, e]

theorem blk10 (t : Fin cfg0.N) (n : Fin 5) (b : Fin 2) (r : Fin 64) (f : Fin 512) :
    iblk m c 10 t (ix4 n b r f) = (args m c).B n b r ⟨512 * t.val + f.val, by have := t_lt t; omega⟩ := by
  have e := idx10 t
  have := t_lt t
  unfold args
  blk_ext [iblk, V, e]

theorem blk12 (t : Fin cfg0.N) (n : Fin 5) (r : Fin 64) (d : Fin 3584) : iblk m c 12 t (ix3 n r d) = (args m c).Bd n r d := by
  have e := idx12 t
  unfold args
  blk_ext [iblk, V, e]

end Cert.KernelIdeal.Val

end
-- ==== Proof.Value.Down.lean ====
module

public import proofs.«01_k».proof.Proof.Value.Chunk

@[expose] public section

set_option maxRecDepth 16384

noncomputable section

namespace Cert.KernelIdeal.Val

open Cert.KernelIdeal.Gen
open Idealize.ShloMosaic Idealize.ShloMosaic.TcCoe Idealize.SL.Sem

local instance : Cert.KernelIdeal.Facts := Cert.KernelIdeal.Gen.facts

/-- The scale of group `g` of a point's four: from the upper or lower half of eight rows, by the parity of the point. -/
def sdPick (i : BitVec 32) (sd : FVec Ideal S8x3584 .f32) (g : ℕ) (h : g < 4) (d : Fin 3584) : EReal :=
  Scalar.select (Scalar.cmpi CmpIPredicate.eq (Scalar.andi i 1#32) 0#32) (sd (ix2 ⟨g, by omega⟩ d)) (sd (ix2 ⟨4 + g, by omega⟩ d))

/-- The first half of a point's 512 rows of the down projection. -/
theorem down_first (i : BitVec 32) (hv : FVec Ideal S16x512 .bf16) (sd : FVec Ideal S8x3584 .f32) (y : FVec Ideal S16x3584 .f32)
    (w : IVec S32x3584 32) (a : Fin 16) (d : Fin 3584) :
    k0_pay85 i hv (k0_pay83 sd) y w (ix2 a d) = y (ix2 a d) + ∑ k : Fin 256, hv (ix2 a ⟨k.val, by omega⟩) *
      (nib (w (ix2 ⟨k.val / 8, by omega⟩ d)) (k.val % 8) * sdPick i sd (k.val / 128) (by omega) d) := by
  pointwise [k0_pay85, k0_pay83, k0_pay84, nib, sdPick]

/-- The second half. -/
theorem down_second (i : BitVec 32) (hv : FVec Ideal S16x512 .bf16) (sd : FVec Ideal S8x3584 .f32) (y : FVec Ideal S16x3584 .f32)
    (w : IVec S32x3584 32) (a : Fin 16) (d : Fin 3584) :
    k0_pay90 y (k0_pay86 hv) w (k0_pay87 i (k0_pay83 sd)) k0_pay88 k0_pay89 (ix2 a d) = y (ix2 a d) + ∑ k : Fin 256, hv (ix2 a ⟨256 + k.val, by omega⟩) *
      (nib (w (ix2 ⟨k.val / 8, by omega⟩ d)) (k.val % 8) * sdPick i sd (2 + k.val / 128) (by omega) d) := by
  pointwise [k0_pay90, k0_pay86, k0_pay87, k0_pay88, k0_pay89, k0_pay83, k0_pay84, nib, sdPick]

theorem sum_halves (f : Fin 512 → EReal) : ∑ x, f x = ∑ k : Fin 256, f ⟨k.val, by omega⟩ + ∑ k : Fin 256, f ⟨256 + k.val, by omega⟩ :=
  Fin.sum_univ_add (a := 256) (b := 256) f

/-- A point's step of the down projection: two halves of 256 rows. -/
def downOf (i : BitVec 32) (hv : FVec Ideal S16x512 .bf16) (sd : FVec Ideal S8x3584 .f32) (y : FVec Ideal S16x3584 .f32) (w : IVec S64x3584 32) :
    FVec Ideal S16x3584 .f32 :=
  k0_pay90 (k0_pay85 i hv (k0_pay83 sd) y
      (View.ld (Val := Elt Ideal) (e' := .i32) w (Rect.unit (s := S64x3584) ![0, 0] ![32, 3584] inb_S64x3584_S32x3584_0_0)))
    (k0_pay86 hv) (View.ld (Val := Elt Ideal) (e' := .i32) w (Rect.unit (s := S64x3584) ![32, 0] ![32, 3584] inb_S64x3584_S32x3584_32_0))
    (k0_pay87 i (k0_pay83 sd)) k0_pay88 k0_pay89

/-- The two halves are one sum. -/
theorem down_step (i : BitVec 32) (hv : FVec Ideal S16x512 .bf16) (sd : FVec Ideal S8x3584 .f32) (y : FVec Ideal S16x3584 .f32)
    (w : IVec S64x3584 32) (a : Fin 16) (d : Fin 3584) :
    downOf i hv sd y w (ix2 a d) =
    y (ix2 a d) + ∑ f : Fin 512, hv (ix2 a f) *
      (nib (w (ix2 ⟨f.val / 8, by omega⟩ d)) (f.val % 8) * sdPick i sd (f.val / 128) (by omega) d) := by
  have h1 (k : Fin 256) : View.ld (Val := Elt Ideal) (e' := .i32) w (Rect.unit (s := S64x3584) ![0, 0] ![32, 3584] inb_S64x3584_S32x3584_0_0)
      (ix2 ⟨k.val / 8, by omega⟩ d) = w (ix2 ⟨k.val / 8, by omega⟩ d) := by pointwise
  have h2 (k : Fin 256) : View.ld (Val := Elt Ideal) (e' := .i32) w (Rect.unit (s := S64x3584) ![32, 0] ![32, 3584] inb_S64x3584_S32x3584_32_0)
      (ix2 ⟨k.val / 8, by omega⟩ d) = w (ix2 ⟨(256 + k.val) / 8, by omega⟩ d) := by
    have e8 : 32 + k.val / 8 = (256 + k.val) / 8 := by omega
    pointwise
    simp only [e8]
  unfold downOf
  rw [down_second, down_first, add_assoc, sum_halves]
  simp only [h1, h2]
  refine congrArg (fun z : EReal => y (ix2 a d) + (_ + z)) (Finset.sum_congr rfl fun k _ => ?_)
  have e128 : 2 + k.val / 128 = (256 + k.val) / 128 := by omega
  have em : k.val % 8 = (256 + k.val) % 8 := by omega
  simp only [e128, em]

/-- The running sums of the down projection's adapter factor. -/
theorem tt_step (hv : FVec Ideal S16x512 .bf16) (tt : FVec Ideal S320x16 .f32) (w : FVec Ideal S5x64x512 .bf16) (q : Fin 320) (a : Fin 16) :
    k0_pay1 (k0_pay91 hv tt w) (ix2 q a) = tt (ix2 q a) + ∑ f : Fin 512, w (ix3 ⟨q.val / 64, by omega⟩ ⟨q.val % 64, by omega⟩ f) * hv (ix2 a f) := by
  pointwise [k0_pay1, k0_pay91]

/-- The gated product of the two projections. -/
theorem act (g u : FVec Ideal S16x512 .f32) (x : FVec Ideal S16x256 .bf16) (w w' : IVec S32x512 32) (s s' : FVec Ideal S2x512 .bf16) :
    k0_pay81 g u x s (k0_pay80 (F := Ideal) w) 28#32 w' s' =
      truncf .bf16 (mulf (mulf (chunk g x w s) (logistic (chunk g x w s))) (chunk u x w' s')) bitsLt_bf16_f32 := by
  sl_kernel_rfl

theorem act_apply (g u : FVec Ideal S16x512 .f32) (a : Fin 16) (f : Fin 512) :
    truncf .bf16 (mulf (mulf g (logistic g)) u) bitsLt_bf16_f32 (ix2 a f) = g (ix2 a f) * Ideal.logistic (g (ix2 a f)) * u (ix2 a f) := by
  pointwise

theorem act_rows (g u : FVec Ideal S16x512 .f32) (x : FVec Ideal S16x256 .bf16) (w : IVec S32x8x512 32) (w' : IVec S32x512 32) (s s' : FVec Ideal S2x512 .bf16)
    (a : Fin 12) (f : Fin 512) :
    k0_pay82 g u x s w 28#32 w' s' (ix2 a f) = k0_pay81 g u x s w 28#32 w' s' (ix2 ⟨a.val, by omega⟩ f) := by
  unfold k0_pay82
  generalize k0_pay81 g u x s w 28#32 w' s' = v
  pointwise

theorem base_g (M : FVec Ideal S16x320 .bf16) (B : FVec Ideal S5x2x64x512 .bf16) (a : Fin 16) (f : Fin 512) :
    k0_pay38 M (View.ld (Val := Elt Ideal) (e' := .bf16) B (Rect.unit (s := S5x2x64x512) ![0, 0, 0, 0] ![5, 1, 64, 512] inb_S5x2x64x512_S5x1x64x512_0_0_0_0)) (ix2 a f) =
      ∑ q : Fin 320, M (ix2 a q) * B (ix4 ⟨q.val / 64, by omega⟩ 0 ⟨q.val % 64, by omega⟩ f) := by
  pointwise [k0_pay38]

theorem base_u (M : FVec Ideal S16x320 .bf16) (B : FVec Ideal S5x2x64x512 .bf16) (a : Fin 16) (f : Fin 512) :
    k0_pay39 M (View.ld (Val := Elt Ideal) (e' := .bf16) B (Rect.unit (s := S5x2x64x512) ![0, 1, 0, 0] ![5, 1, 64, 512] inb_S5x2x64x512_S5x1x64x512_0_1_0_0)) (ix2 a f) =
      ∑ q : Fin 320, M (ix2 a q) * B (ix4 ⟨q.val / 64, by omega⟩ 1 ⟨q.val % 64, by omega⟩ f) := by
  pointwise [k0_pay39]

end Cert.KernelIdeal.Val

end
-- ==== Proof.Value.Lora.lean ====
module

public import proofs.«01_k».proof.Proof.Value.Chunk

@[expose] public section

set_option maxRecDepth 16384

noncomputable section

namespace Cert.KernelIdeal.Val

open Cert.KernelIdeal.Gen
open Idealize.ShloMosaic Idealize.ShloMosaic.TcCoe Idealize.SL.Sem

local instance : Cert.KernelIdeal.Facts := Cert.KernelIdeal.Gen.facts

abbrev adapter (x : FVec Ideal S5x3584x128 .bf16) (n : ℕ) (h : n + 1 ≤ 5) : FVec Ideal S1x3584x128 .bf16 :=
  View.ld (Val := Elt Ideal) (e' := .bf16) x (Rect.unit (s := S5x3584x128) ![n, 0, 0] ![1, 3584, 128]
    (by intro a; fin_cases a <;> simp [Shape.size] <;> omega))

/-- Which half a lane is in, as the kernel computes it. -/
theorem lane_word : ∀ l : Fin 128, Scalar.select (IntOp.cmpi CmpIPredicate.sge (BitVec.ofNat 32 l.val) 64#32) 1#32 0#32 =
    BitVec.ofNat 32 (l.val / 64) := by decide

theorem word_pick : ∀ (n : Fin 5) (g : Fin 2) (p : Fin 3), IntOp.cmpi CmpIPredicate.eq (BitVec.ofNat 32 n.val)
    (IntOp.addi (BitVec.ofNat 32 g.val) (BitVec.ofNat 32 (2 * p.val))) = if n.val = g.val + 2 * p.val then 1#1 else 0#1 := by decide

/-- The test of pair `p` of adapters at lane `l`. -/
theorem pick (n : Fin 5) (l : ℕ) (h : l < 128) (p : Fin 3) (v : EReal) :
    Scalar.select (IntOp.cmpi CmpIPredicate.eq (BitVec.ofNat 32 n.val)
      (IntOp.addi (Scalar.select (IntOp.cmpi CmpIPredicate.sge (BitVec.ofNat 32 l) 64#32) 1#32 0#32) (BitVec.ofNat 32 (2 * p.val)))) v 0 =
    if n.val = l / 64 + 2 * p.val then v else 0 := by
  rw [lane_word ⟨l, h⟩, word_pick n ⟨l / 64, by omega⟩ p]
  dsimp only
  split_ifs <;> rfl

theorem pick0 (n : Fin 5) (l : ℕ) (h : l < 128) (v : EReal) :
    Scalar.select (IntOp.cmpi CmpIPredicate.eq (BitVec.ofNat 32 n.val)
      (IntOp.addi (Scalar.select (IntOp.cmpi CmpIPredicate.sge (BitVec.ofNat 32 l) 64#32) 1#32 0#32) 0#32)) v 0 =
    if n.val = l / 64 then v else 0 := pick n l h 0 v

theorem pick2 (n : Fin 5) (l : ℕ) (h : l < 128) (v : EReal) :
    Scalar.select (IntOp.cmpi CmpIPredicate.eq (BitVec.ofNat 32 n.val)
      (IntOp.addi (Scalar.select (IntOp.cmpi CmpIPredicate.sge (BitVec.ofNat 32 l) 64#32) 1#32 0#32) 2#32)) v 0 =
    if n.val = l / 64 + 2 then v else 0 := pick n l h 1 v

theorem pick4 (n : Fin 5) (l : ℕ) (h : l < 128) (v : EReal) :
    Scalar.select (IntOp.cmpi CmpIPredicate.eq (BitVec.ofNat 32 n.val)
      (IntOp.addi (Scalar.select (IntOp.cmpi CmpIPredicate.sge (BitVec.ofNat 32 l) 64#32) 1#32 0#32) 4#32)) v 0 =
    if n.val = l / 64 + 4 then v else 0 := pick n l h 2 v

/-- The products `x A` summed over the adapters a row names: there is only one. -/
theorem s_pay (I : IVec S16x128 32) (S : FVec Ideal S16x128 .f32) (X : FVec Ideal S16x3584 .bf16) (A : FVec Ideal S5x3584x128 .bf16) (a : Fin 16) (l : Fin 128)
    (n : Fin 5) (hn : I (ix2 a l) = BitVec.ofNat 32 n.val) :
    k0_pay8 I S X (k0_pay5 I X (adapter A 0 (by decide)) (adapter A 1 (by decide))) (k0_pay6 I) (k0_pay7 (adapter A 2 (by decide)))
      (constant S16x128 FTy.f32 0#32) (adapter A 3 (by decide)) (adapter A 4 (by decide)) (ix2 a l) =
    (∑ d : Fin 3584, X (ix2 a d) * A (ix3 n d l)) * S (ix2 a l) := by
  have ha (i : ℕ) (h : i + 1 ≤ 5) (d : Fin 3584) : adapter A i h (ix3 0 d l) = A (ix3 ⟨i, by omega⟩ d l) := by
    pointwise [adapter]
  pointwise [k0_pay8, k0_pay5, k0_pay6, k0_pay7]
  simp only [hn, ha]
  congr 1
  fin_cases n <;> simp [Scalar.select, IntOp.cmpi]

/-- A row spread over the blocks of 64 columns, one block per adapter: the row in its adapter's block, zeros elsewhere. -/
abbrev spreadAt (v : Fin 128 → EReal) (n : Fin 5) (q : Fin 320) : EReal := if q.val / 64 = n.val then v ⟨q.val % 128, by omega⟩ else 0

/-- The three pairs of blocks, side by side, are the row spread. -/
theorem spread_pick (v : Fin 128 → EReal) (n : Fin 5) (q : Fin 320) :
    (if h : q.val < 128 then
      Scalar.select (IntOp.cmpi CmpIPredicate.eq (BitVec.ofNat 32 n.val)
          (IntOp.addi (Scalar.select (IntOp.cmpi CmpIPredicate.sge (BitVec.ofNat 32 q.val) 64#32) 1#32 0#32) 0#32)) (v ⟨q.val, h⟩) 0
    else if h : q.val - 128 < 128 then
      Scalar.select (IntOp.cmpi CmpIPredicate.eq (BitVec.ofNat 32 n.val)
          (IntOp.addi (Scalar.select (IntOp.cmpi CmpIPredicate.sge (BitVec.ofNat 32 (q.val - 128)) 64#32) 1#32 0#32) 2#32)) (v ⟨q.val - 128, h⟩) 0
    else
      Scalar.select (IntOp.cmpi CmpIPredicate.eq (BitVec.ofNat 32 n.val)
          (IntOp.addi (Scalar.select (IntOp.cmpi CmpIPredicate.sge (BitVec.ofNat 32 (q.val - 128 - 128)) 64#32) 1#32 0#32) 4#32))
          (v ⟨q.val - 128 - 128, by omega⟩) 0) = spreadAt v n q := by
  rcases lt_or_ge q.val 128 with h | h
  · rw [dif_pos h, pick0 _ _ (by omega)]
    refine if_congr (by omega) (congrArg v (Fin.ext ?_)) rfl
    dsimp only; omega
  rw [dif_neg (by omega)]
  rcases lt_or_ge (q.val - 128) 128 with h' | h'
  · rw [dif_pos h', pick2 _ _ (by omega)]
    refine if_congr (by omega) (congrArg v (Fin.ext ?_)) rfl
    dsimp only; omega
  rw [dif_neg (by omega), pick4 _ _ (by omega)]
  refine if_congr (by omega) (congrArg v (Fin.ext ?_)) rfl
  dsimp only; omega

theorem lane_low : ∀ l : Fin 128, IntOp.cmpi CmpIPredicate.slt (BitVec.ofNat 32 l.val) 64#32 = if l.val < 64 then 1#1 else 0#1 := by decide

/-- The gate's half of `s` in both halves of the lanes. -/
theorem lo_pay (I : IVec S16x128 32) (S : FVec Ideal S16x128 .f32) (X : FVec Ideal S16x3584 .bf16) (P : FVec Ideal S16x128 .f32) (b : IVec S16x128 1)
    (A2 : FVec Ideal S3584x128 .bf16) (z : FVec Ideal S16x128 .f32) (A3 A4 : FVec Ideal S1x3584x128 .bf16) (a : Fin 16) (l : Fin 128) :
    k0_pay12 I S X P b A2 z A3 A4 (ix2 a l) = k0_pay8 I S X P b A2 z A3 A4 (ix2 a ⟨l.val % 64, by omega⟩) := by
  unfold k0_pay12 k0_pay11 k0_pay10
  generalize k0_pay8 I S X P b A2 z A3 A4 = v
  pointwise
  rw [lane_low]
  split_ifs with h
  · exact congrArg (fun i => v (ix2 a i)) (Fin.ext (by dsimp only; omega))
  · exact congrArg (fun i => v (ix2 a i)) (Fin.ext (by dsimp only; omega))

/-- The other half, likewise. -/
theorem hi_pay (I : IVec S16x128 32) (S : FVec Ideal S16x128 .f32) (X : FVec Ideal S16x3584 .bf16) (P : FVec Ideal S16x128 .f32) (b : IVec S16x128 1)
    (A2 : FVec Ideal S3584x128 .bf16) (z : FVec Ideal S16x128 .f32) (A3 A4 : FVec Ideal S1x3584x128 .bf16) (a : Fin 16) (l : Fin 128) :
    k0_pay16 (k0_pay10 I S X P b A2 z A3 A4) (k0_pay11 I S X P b A2 z A3 A4) (iota .tc S16x128 32 [1] iota_S16x128_d1_w32) (ix2 a l) =
      k0_pay8 I S X P b A2 z A3 A4 (ix2 a ⟨64 + l.val % 64, by omega⟩) := by
  unfold k0_pay16 k0_pay11 k0_pay10
  generalize k0_pay8 I S X P b A2 z A3 A4 = v
  pointwise
  rw [lane_low]
  split_ifs with h
  · exact congrArg (fun i => v (ix2 a i)) (Fin.ext (by dsimp only; omega))
  · exact congrArg (fun i => v (ix2 a i)) (Fin.ext (by dsimp only; omega))

/-- The spread of a row, as the kernel does it for the gate's factor. -/
theorem mg_pay (I : IVec S16x128 32) (v : FVec Ideal S16x128 .f32) (a : Fin 16) (q : Fin 320) (n : Fin 5) (hn : ∀ l, I (ix2 a l) = BitVec.ofNat 32 n.val) :
    k0_pay15 I v k0_pay13 k0_pay14 (ix2 a q) = spreadAt (fun l => v (ix2 a l)) n q := by
  pointwise [k0_pay15, k0_pay13, k0_pay14]
  simp only [hn]
  exact spread_pick (fun l => v (ix2 a l)) n q

/-- `s` of all sixteen rows: the products with the adapters, masked by the table `I` and scaled by the table `S`. -/
def sRow (I : IVec S16x128 32) (S : FVec Ideal S16x128 .f32) (X : FVec Ideal S16x3584 .bf16) (A : FVec Ideal S5x3584x128 .bf16) : FVec Ideal S16x128 .bf16 :=
  k0_pay8 I S X (k0_pay5 I X (adapter A 0 (by decide)) (adapter A 1 (by decide))) (k0_pay6 I) (k0_pay7 (adapter A 2 (by decide)))
    (constant S16x128 FTy.f32 0#32) (adapter A 3 (by decide)) (adapter A 4 (by decide))

/-- The gate's half of `s`, spread over the adapters. -/
def mgOf (I : IVec S16x128 32) (S : FVec Ideal S16x128 .f32) (X : FVec Ideal S16x3584 .bf16) (A : FVec Ideal S5x3584x128 .bf16) : FVec Ideal S16x320 .bf16 :=
  k0_pay15 I (k0_pay12 I S X (k0_pay5 I X (adapter A 0 (by decide)) (adapter A 1 (by decide))) (k0_pay6 I) (k0_pay7 (adapter A 2 (by decide)))
    (constant S16x128 FTy.f32 0#32) (adapter A 3 (by decide)) (adapter A 4 (by decide))) k0_pay13 k0_pay14

/-- The other half of `s`, spread over the adapters. -/
def muOf (I : IVec S16x128 32) (S : FVec Ideal S16x128 .f32) (X : FVec Ideal S16x3584 .bf16) (A : FVec Ideal S5x3584x128 .bf16) : FVec Ideal S16x320 .bf16 :=
  let u := k0_pay10 I S X (k0_pay5 I X (adapter A 0 (by decide)) (adapter A 1 (by decide))) (k0_pay6 I) (k0_pay7 (adapter A 2 (by decide)))
    (constant S16x128 FTy.f32 0#32) (adapter A 3 (by decide)) (adapter A 4 (by decide))
  let r := k0_pay11 I S X (k0_pay5 I X (adapter A 0 (by decide)) (adapter A 1 (by decide))) (k0_pay6 I) (k0_pay7 (adapter A 2 (by decide)))
    (constant S16x128 FTy.f32 0#32) (adapter A 3 (by decide)) (adapter A 4 (by decide))
  k0_pay35 (k0_pay16 u r (iota .tc S16x128 32 [1] iota_S16x128_d1_w32)) (k0_pay18 I u r (iota .tc S16x128 32 [1] iota_S16x128_d1_w32))
    (k0_pay19 I u r (iota .tc S16x128 32 [1] iota_S16x128_d1_w32)) (k0_pay20 I) k0_pay21

theorem mgOf_apply (I : IVec S16x128 32) (S : FVec Ideal S16x128 .f32) (X : FVec Ideal S16x3584 .bf16) (A : FVec Ideal S5x3584x128 .bf16)
    (a : Fin 16) (q : Fin 320) (n : Fin 5) (hn : ∀ l, I (ix2 a l) = BitVec.ofNat 32 n.val) :
    mgOf I S X A (ix2 a q) = spreadAt (fun l => sRow I S X A (ix2 a ⟨l.val % 64, by omega⟩)) n q := by
  unfold mgOf
  rw [mg_pay _ _ _ _ n hn]
  simp only [lo_pay, sRow]

theorem muOf_apply (I : IVec S16x128 32) (S : FVec Ideal S16x128 .f32) (X : FVec Ideal S16x3584 .bf16) (A : FVec Ideal S5x3584x128 .bf16)
    (a : Fin 16) (q : Fin 320) (n : Fin 5) (hn : ∀ l, I (ix2 a l) = BitVec.ofNat 32 n.val) :
    muOf I S X A (ix2 a q) = spreadAt (fun l => sRow I S X A (ix2 a ⟨64 + l.val % 64, by omega⟩)) n q := by
  have e := fun l => hi_pay I S X (k0_pay5 I X (adapter A 0 (by decide)) (adapter A 1 (by decide))) (k0_pay6 I) (k0_pay7 (adapter A 2 (by decide)))
    (constant S16x128 FTy.f32 0#32) (adapter A 3 (by decide)) (adapter A 4 (by decide)) a l
  unfold muOf k0_pay18 k0_pay19
  dsimp only
  unfold sRow
  simp only [← e]
  generalize k0_pay16 _ _ (iota .tc S16x128 32 [1] iota_S16x128_d1_w32) = v
  pointwise [k0_pay35, k0_pay17, k0_pay20, k0_pay21]
  simp only [hn]
  exact spread_pick (fun l => v (ix2 a l)) n q

/-- The last point's `t`: the row's adapter picked out of the running sums, and scaled. -/
theorem t_pay (I : IVec S16x128 32) (S : FVec Ideal S16x128 .f32) (tt : FVec Ideal S320x16 .f32) (a : Fin 16) (l : Fin 128)
    (n : Fin 5) (hn : ∀ l, I (ix2 a l) = BitVec.ofNat 32 n.val) :
    k0_pay22 I S tt (ix2 a l) = tt (ix2 ⟨n.val * 64 + l.val % 64, by omega⟩ a) * S (ix2 a l) := by
  pointwise [k0_pay22]
  simp only [hn]
  have hl : (l.val + 128 - 64) % 128 < 128 := by omega
  simp only [pick0 n l.val l.isLt, pick2 n l.val l.isLt, pick4 n l.val l.isLt, pick0 n _ hl, pick2 n _ hl, pick4 n _ hl]
  congr 1
  rcases lt_or_ge l.val 64 with h | h
  · have e1 : l.val / 64 = 0 := by omega
    have e2 : (l.val + 128 - 64) % 128 / 64 = 1 := by omega
    have e3 : l.val % 64 = l.val := by omega
    have e4 : (l.val + 128 - 64) % 128 = l.val + 64 := by omega
    have e5 : (l.val + 64) / 64 = 1 := by omega
    simp only [e1, e3, e4, e5]
    fin_cases n <;> simp [h]
    all_goals exact congrArg (fun i => tt (ix2 i a)) (Fin.ext (by dsimp only; omega))
  · have e1 : l.val / 64 = 1 := by omega
    have e3 : (l.val + 128 - 64) % 128 = l.val % 64 := by omega
    have e5 : l.val % 64 / 64 = 0 := by omega
    have e6 : l.val % 64 < 64 := by omega
    simp only [e1, e3, e5]
    fin_cases n <;> simp [h, e6]
    all_goals exact congrArg (fun i => tt (ix2 i a)) (Fin.ext (by dsimp only; omega))

/-- The last point's output: the down projection and the adapter's share. -/
theorem out_pay (I : IVec S16x128 32) (v : FVec Ideal S16x128 .bf16) (y : FVec Ideal S16x3584 .f32) (B : FVec Ideal S5x64x3584 .bf16) (a : Fin 12) (d : Fin 3584)
    (n : Fin 5) (hn : ∀ l, I (ix2 ⟨a.val, by omega⟩ l) = BitVec.ofNat 32 n.val) :
    k0_pay2 I v y B (ix2 a d) = y (ix2 ⟨a.val, by omega⟩ d) +
      ∑ q : Fin 320, spreadAt (fun l => v (ix2 ⟨a.val, by omega⟩ l)) n q * B (ix3 ⟨q.val / 64, by omega⟩ ⟨q.val % 64, by omega⟩ d) := by
  pointwise [k0_pay2]
  simp only [hn]
  refine congrArg (y _ + ·) (Finset.sum_congr rfl fun q _ => congrArg (· * _) ?_)
  exact spread_pick (fun l => v (ix2 ⟨a.val, by omega⟩ l)) n q

end Cert.KernelIdeal.Val

end
-- ==== Proof.Value.Step.lean ====
/-
  One point's share of the hidden activations, as a function of the point's blocks.
-/
module

public import proofs.«01_k».proof.Proof.Value.Down
public import proofs.«01_k».proof.Proof.Value.Lora

@[expose] public section

set_option maxRecDepth 16384

noncomputable section

namespace Cert.KernelIdeal.Val

open Cert.KernelIdeal.Gen
open Idealize.ShloMosaic Idealize.ShloMosaic.TcCoe Idealize.SL.Sem

local instance : Cert.KernelIdeal.Facts := Cert.KernelIdeal.Gen.facts

/-- The gate projection of a point: the adapters' share, then the fourteen chunks. -/
def gateOf (M : FVec Ideal S16x320 .bf16) (X : FVec Ideal S16x3584 .bf16) (B : FVec Ideal S5x2x64x512 .bf16) (W : IVec S448x512 32) (s : FVec Ideal S28x512 .bf16) :
    FVec Ideal S16x512 .f32 :=
  proj (k0_pay38 M (View.ld (Val := Elt Ideal) (e' := .bf16) B
    (Rect.unit (s := S5x2x64x512) ![0, 0, 0, 0] ![5, 1, 64, 512] inb_S5x2x64x512_S5x1x64x512_0_0_0_0))) X W s 14 le_rfl

/-- The up projection of a point. -/
def upOf (M : FVec Ideal S16x320 .bf16) (X : FVec Ideal S16x3584 .bf16) (B : FVec Ideal S5x2x64x512 .bf16) (W : IVec S448x512 32) (s : FVec Ideal S28x512 .bf16) :
    FVec Ideal S16x512 .f32 :=
  proj (k0_pay39 M (View.ld (Val := Elt Ideal) (e' := .bf16) B
    (Rect.unit (s := S5x2x64x512) ![0, 1, 0, 0] ![5, 1, 64, 512] inb_S5x2x64x512_S5x1x64x512_0_1_0_0))) X W s 14 le_rfl

/-- The gated product of a point, sixteen rows of 512. -/
def hOf (M M' : FVec Ideal S16x320 .bf16) (X : FVec Ideal S16x3584 .bf16) (B : FVec Ideal S5x2x64x512 .bf16) (W W' : IVec S448x512 32) (s s' : FVec Ideal S28x512 .bf16) :
    FVec Ideal S16x512 .bf16 :=
  truncf .bf16 (mulf (mulf (gateOf M X B W s) (logistic (gateOf M X B W s))) (upOf M' X B W' s')) bitsLt_bf16_f32

theorem gateOf_apply (M : FVec Ideal S16x320 .bf16) (X : FVec Ideal S16x3584 .bf16) (B : FVec Ideal S5x2x64x512 .bf16) (W : IVec S448x512 32)
    (s : FVec Ideal S28x512 .bf16) (a : Fin 16) (f : Fin 512) :
    gateOf M X B W s (ix2 a f) = (∑ q : Fin 320, M (ix2 a q) * B (ix4 ⟨q.val / 64, by omega⟩ 0 ⟨q.val % 64, by omega⟩ f)) +
      ∑ d : Fin 3584, projTerm X W s a f d := by
  rw [gateOf, proj_all, base_g]

theorem upOf_apply (M : FVec Ideal S16x320 .bf16) (X : FVec Ideal S16x3584 .bf16) (B : FVec Ideal S5x2x64x512 .bf16) (W : IVec S448x512 32)
    (s : FVec Ideal S28x512 .bf16) (a : Fin 16) (f : Fin 512) :
    upOf M X B W s (ix2 a f) = (∑ q : Fin 320, M (ix2 a q) * B (ix4 ⟨q.val / 64, by omega⟩ 1 ⟨q.val % 64, by omega⟩ f)) +
      ∑ d : Fin 3584, projTerm X W s a f d := by
  rw [upOf, proj_all, base_u]

theorem hOf_apply (M M' : FVec Ideal S16x320 .bf16) (X : FVec Ideal S16x3584 .bf16) (B : FVec Ideal S5x2x64x512 .bf16) (W W' : IVec S448x512 32)
    (s s' : FVec Ideal S28x512 .bf16) (a : Fin 16) (f : Fin 512) :
    hOf M M' X B W W' s s' (ix2 a f) = gateOf M X B W s (ix2 a f) * Ideal.logistic (gateOf M X B W s (ix2 a f)) * upOf M' X B W' s' (ix2 a f) := by
  rw [hOf, act_apply]

/-- The first twelve rows. -/
def rows12 (v : FVec Ideal S16x512 .bf16) : FVec Ideal S12x512 .bf16 := extractStridedSlice S12x512 ![0, 0] v slices_S16x512_o0_0_S12x512

theorem rows12_apply (v : FVec Ideal S16x512 .bf16) (a : Fin 12) (f : Fin 512) : rows12 v (ix2 a f) = v (ix2 ⟨a.val, by omega⟩ f) := by
  pointwise [rows12]

end Cert.KernelIdeal.Val

end
-- ==== Proof.Value.OpenMiddle.lean ====
/-
  What a middle point leaves, as functions of its blocks and of what the point before it left.
-/
module

public import proofs.«01_k».proof.Proof.Value.Step
public import proofs.«01_k».proof.Proof.Body.Left
public import Idealize.ShloMosaic.Lib.Pipeline.ReadBack

@[expose] public section

set_option maxRecDepth 16384

noncomputable section

namespace Cert.KernelIdeal.Val

open Cert.KernelIdeal.Gen Cert.KernelIdeal.Body
open Idealize.ShloMosaic Idealize.ShloMosaic.TcCoe Idealize.SL.Sem

local instance : Cert.KernelIdeal.Facts := Cert.KernelIdeal.Gen.facts

variable (m : (ℓ : Loc nD τ sig) → Buf (Elt Ideal) ℓ)

/-- The rows a point computes, from what the point before it left. -/
abbrev hB (c : Dev nD) (t : Fin cfg0.N) (p : Left Ideal) : FVec Ideal S16x512 .bf16 :=
  hOf p.mg p.mu p.x16 (iblk m c 10 t) (iblk m c 3 t) (iblk m c 4 t) (iblk m c 5 t) (iblk m c 6 t)

/-- The rows of scales a point reads. -/
abbrev sdB (c : Dev nD) (t : Fin cfg0.N) : FVec Ideal S8x3584 .f32 :=
  View.ld (Val := Elt Ideal) (e' := .f32) (S := S152x3584) (iblk m c 8 t) (Rect.unit (k0_off13 (grid0.coords t)) ![8, 3584] (k0_off13_inb (grid0.coords t)))

/-- The point's number as the body's word. -/
abbrev ptB (t : Fin cfg0.N) : BitVec 32 := BitVec.ofNat 32 (grid0.coords t 0).val

theorem h_B (hH : Hyps m) (c : Dev nD) (t : Fin cfg0.N) (h0 : ¬t.val % 37 = 0) (h1 : ¬t.val % 37 = 36) (p : Left Ideal) (j : S12x512.Idx) :
    (leftB m hH c t h0 h1 p).h j = rows12 (hB m c t p) j := by
  unfold leftB runB
  dsimp only
  frame_out
  simp only [Memref.IsWhole.read_unread, read_unread_whole]
  sl_kernel_rfl

theorem y_B (hH : Hyps m) (c : Dev nD) (t : Fin cfg0.N) (h0 : ¬t.val % 37 = 0) (h1 : ¬t.val % 37 = 36) (p : Left Ideal) (j : S16x3584.Idx) :
    (leftB m hH c t h0 h1 p).y j = downOf (ptB t) (hB m c t p) (sdB m c t) p.y (iblk m c 7 t) j := by
  unfold leftB runB
  dsimp only
  frame_out
  simp only [Memref.IsWhole.read_unread, read_unread_whole]
  sl_kernel_rfl

theorem tt_B (hH : Hyps m) (c : Dev nD) (t : Fin cfg0.N) (h0 : ¬t.val % 37 = 0) (h1 : ¬t.val % 37 = 36) (p : Left Ideal) (j : S320x16.Idx) :
    (leftB m hH c t h0 h1 p).tt j = k0_pay1 (k0_pay91 (hB m c t p) p.tt (iblk m c 11 t)) j := by
  unfold leftB runB
  dsimp only
  frame_out
  simp only [Memref.IsWhole.read_unread, read_unread_whole]
  sl_kernel_rfl

end Cert.KernelIdeal.Val

end
-- ==== Proof.Value.Host.lean ====
/-
  The blocks of the operands the host prepares: the activations, the padded down scales and the transposed factor.
-/
module

public import proofs.«01_k».proof.Proof.Value.Blocks
public import proofs.«01_k».proof.Proof.Value.OpenMiddle
public import Idealize.ShloMosaic.Lib.StableHlo.ReadAt

@[expose] public section

set_option maxRecDepth 16384

noncomputable section

namespace Cert.KernelIdeal.Val

open Cert.KernelIdeal.Gen Cert.KernelIdeal.Body
open Idealize.ShloMosaic Idealize.ShloMosaic.TcCoe Idealize.SL.Sem

local instance : Cert.KernelIdeal.Facts := Cert.KernelIdeal.Gen.facts

variable (m : (ℓ : Loc nD τ sig) → Buf (Elt Ideal) ℓ) (c : Dev nD)

set_option maxHeartbeats 1000000

/-- The activations as the region finds them: the argument's rows. -/
theorem V_x (a : Fin 12) (d : Fin 3584) : V m c main_v0 (ix2 a d) = m ((c.tc : Thread nD τ).loc main_arg0) (ix3 a 0 d) := by
  unfold V
  after_reads_at

/-- The first 148 rows of the padded scales are the argument's. -/
theorem V_sd (k : Fin 152) (h : k.val < 148) (d : Fin 3584) :
    V m c main_v3 (ix2 k d) = m ((c.tc : Thread nD τ).loc main_arg5) (ix2 ⟨k.val, h⟩ d) := by
  unfold V
  after_reads_at
  simp [h]

/-- The second factor, transposed. -/
theorem V_ad (n : Fin 5) (r : Fin 64) (f : Fin 18944) : V m c main_v1 (ix3 n r f) = m ((c.tc : Thread nD τ).loc main_arg8) (ix3 n f r) := by
  unfold V
  after_reads_at

theorem blk2 (t : Fin cfg0.N) (a : Fin 12) (d : Fin 3584) : iblk m c 2 t (ix2 a d) = (args m c).x a d := by
  have e := idx2 t
  refine Eq.trans ?_ (V_x m c a d)
  generalize hV : (V m c main_v0 : S12x3584.Idx → EReal) = v
  have hV' : ∀ i, iblk m c 2 t i = v (((cfg0.win 2).blk t).view.emb i) := fun i => by rw [← hV]; rfl
  rw [hV']
  blk_ext [e]

theorem blk8 (t : Fin cfg0.N) (k : Fin 152) (h : k.val < 148) (d : Fin 3584) : iblk m c 8 t (ix2 k d) = (args m c).Sd ⟨k.val, h⟩ d := by
  have e := idx8 t
  refine Eq.trans ?_ (V_sd m c k h d)
  blk_ext [iblk, e]

theorem blk11 (t : Fin cfg0.N) (n : Fin 5) (r : Fin 64) (f : Fin 512) :
    iblk m c 11 t (ix3 n r f) = (args m c).Ad n ⟨512 * t.val + f.val, by have := t_lt t; omega⟩ r := by
  have e := idx11 t
  have := t_lt t
  refine Eq.trans ?_ (V_ad m c n r ⟨512 * t.val + f.val, by omega⟩)
  blk_ext [iblk, e]

theorem off13 : ∀ t : Fin cfg0.N, k0_off13 (grid0.coords t) = ![8 * (t.val / 2), 0] := by decide +kernel

theorem even_word : ∀ t : Fin cfg0.N, Scalar.cmpi CmpIPredicate.eq (Scalar.andi (ptB t) 1#32) 0#32 = if t.val % 2 = 0 then 1#1 else 0#1 := by
  decide +kernel

theorem sdB_apply (t : Fin cfg0.N) (k : Fin 8) (h : 8 * (t.val / 2) + k.val < 148) (d : Fin 3584) :
    sdB m c t (ix2 k d) = (args m c).Sd ⟨8 * (t.val / 2) + k.val, h⟩ d := by
  rw [← blk8 m c t ⟨8 * (t.val / 2) + k.val, by omega⟩ h d]
  refine congrArg (iblk m c 8 t) ?_
  funext b
  refine Fin.ext ?_
  change k0_off13 (grid0.coords t) b + 1 * _ = _
  have e := congrFun (off13 t) b
  fin_cases b
  · change k0_off13 (grid0.coords t) 0 + 1 * k.val = 8 * (t.val / 2) + k.val
    rw [show k0_off13 (grid0.coords t) 0 = 8 * (t.val / 2) from e]
    omega
  · change k0_off13 (grid0.coords t) 1 + 1 * d.val = d.val
    rw [show k0_off13 (grid0.coords t) 1 = 0 from e]
    omega

theorem sdPick_apply (t : Fin cfg0.N) (g : ℕ) (hg : g < 4) (d : Fin 3584) :
    sdPick (ptB t) (sdB m c t) g hg d = (args m c).Sd ⟨4 * t.val + g, by have := t_lt t; omega⟩ d := by
  have := t_lt t
  unfold sdPick
  rw [even_word]
  by_cases h : t.val % 2 = 0
  · rw [if_pos h]
    refine (sdB_apply m c t ⟨g, by omega⟩ (by dsimp only; omega) d).trans ?_
    exact congrArg (fun k => (args m c).Sd k d) (Fin.ext (by dsimp only; omega))
  · rw [if_neg h]
    refine (sdB_apply m c t ⟨4 + g, by omega⟩ (by dsimp only; omega) d).trans ?_
    exact congrArg (fun k => (args m c).Sd k d) (Fin.ext (by dsimp only; omega))

end Cert.KernelIdeal.Val

end
-- ==== Proof.Value.Tables.lean ====
/-
  The two tables of the kernel, one row of the batch in one of sixteen sublanes: the adapter a row names and that adapter's scaling.
-/
module

public import proofs.«01_k».proof.Proof.Value.Down
public import proofs.«01_k».proof.Proof.Value.Lora
public import proofs.«01_k».proof.Proof.Body.Left
public import Idealize.ShloMosaic.Lib.Pipeline.ReadBack

@[expose] public section

set_option maxRecDepth 16384

noncomputable section

namespace Cert.KernelIdeal.Val

open Cert.KernelIdeal.Gen Cert.KernelIdeal.Body
open Idealize.ShloMosaic Idealize.ShloMosaic.TcCoe Idealize.SL.Sem

local instance : Cert.KernelIdeal.Facts := Cert.KernelIdeal.Gen.facts

variable (m : (ℓ : Loc nD τ sig) → Buf (Elt Ideal) ℓ)

/-- Row `b` of a table set to `v`. -/
def selRow {α : Type} (b : BitVec 32) (v : α) (T : S16x128.Idx → α) : S16x128.Idx → α :=
  select (cmpi .eq (iota .tc S16x128 32 [0] iota_S16x128_d0_w32) (broadcast S16x128 b)) (broadcast S16x128 v) T

/-- A table filled row by row. -/
def table {α : Type} (z v0 v1 v2 v3 v4 v5 v6 v7 v8 v9 v10 v11 : α) : S16x128.Idx → α :=
  selRow 11#32 v11 (selRow 10#32 v10 (selRow 9#32 v9 (selRow 8#32 v8 (selRow 7#32 v7 (selRow 6#32 v6 (selRow 5#32 v5 (selRow 4#32 v4
    (selRow 3#32 v3 (selRow 2#32 v2 (selRow 1#32 v1 (selRow 0#32 v0 (broadcast S16x128 z))))))))))))

theorem selRow_apply {α : Type} (b : BitVec 32) (v : α) (T : S16x128.Idx → α) (a : Fin 16) (l : Fin 128) :
    selRow b v T (ix2 a l) = if BitVec.ofNat 32 a.val = b then v else T (ix2 a l) := by
  pointwise [selRow]
  simp only [Scalar.select, IntOp.cmpi]
  by_cases h : BitVec.ofNat 32 a.val = b
  · rw [if_pos h]
    exact if_pos (by simp [h])
  · rw [if_neg h]
    exact if_neg (by rw [beq_eq_false_iff_ne.mpr h]; decide)

/-- What holds of each row's value holds of the table's row. -/
theorem table_row {α : Type} (P : Fin 12 → α → Prop) (z v0 v1 v2 v3 v4 v5 v6 v7 v8 v9 v10 v11 : α) (a : Fin 12) (l : Fin 128)
    (h0 : P 0 v0) (h1 : P 1 v1) (h2 : P 2 v2) (h3 : P 3 v3) (h4 : P 4 v4) (h5 : P 5 v5) (h6 : P 6 v6) (h7 : P 7 v7) (h8 : P 8 v8)
    (h9 : P 9 v9) (h10 : P 10 v10) (h11 : P 11 v11) : P a (table z v0 v1 v2 v3 v4 v5 v6 v7 v8 v9 v10 v11 (ix2 ⟨a.val, by omega⟩ l)) := by
  simp only [table, selRow_apply]
  fin_cases a <;> simpa

/-- A single element, loaded at an offset. -/
theorem ld_one {Val : EltTy → Type} {e : EltTy} {n : ℕ} (x : (⟨1, ![n]⟩ : Shape).Idx → Val e) (off : Fin 1 → ℕ)
    (h : ∀ a, off a + (![1] : Fin 1 → ℕ) a ≤ (⟨1, ![n]⟩ : Shape).size a) (i) (k : Fin n) (hk : off 0 = k.val) :
    View.ld (Val := Val) (e' := e) x (Rect.unit (s := ⟨1, ![n]⟩) off ![1] h) i = x (ix1 k) := by
  have h0 : (i 0).val = 0 := by
    have := (i 0).isLt
    change (i 0).val < 1 at this
    omega
  refine congrArg x ?_
  funext a
  fin_cases a
  refine Fin.ext ?_
  change off 0 + 1 * (i 0).val = k.val
  omega

/-- The table of adapters: row `b` holds the word `b` of `idx`. -/
def RowsI (I : IVec S16x128 32) (x0 : IVec S12 32) : Prop :=
  ∀ (a : Fin 12) (l : Fin 128), I (ix2 ⟨a.val, by omega⟩ l) = x0 (ix1 a)

/-- The table of scalings: row `b` holds the scaling of the adapter that row `b` names. -/
def RowsS (S : FVec Ideal S16x128 .f32) (x0 : IVec S12 32) (x1 : FVec Ideal S5 .f32) : Prop :=
  ∀ (a : Fin 12) (l : Fin 128) (k : Fin 5), (x0 (ix1 a)).toNat = k.val → S (ix2 ⟨a.val, by omega⟩ l) = x1 (ix1 k)

/-- A word of the adapters' operand, loaded through its staging buffer. -/
theorem ld_word (c : Dev nD) (t : Fin cfg0.N) (off : Fin 1 → ℕ) (h) (i) (b : Fin 12) (hb : off 0 = b.val) :
    View.ld (View.read (Elt Ideal) (ms0_0 t).view ((hs0_0 t).unread (iblk m c 0 t))) (Rect.unit off ![1] h) i = iblk m c 0 t (ix1 b) := by
  rw [Memref.IsWhole.read_unread]
  exact ld_one _ _ _ _ b hb

variable {m}

theorem rowsI {c : Dev nD} {t : Fin cfg0.N} {z v0 v1 v2 v3 v4 v5 v6 v7 v8 v9 v10 v11 : BitVec 32}
    (h0 : v0 = iblk m c 0 t (ix1 0)) (h1 : v1 = iblk m c 0 t (ix1 1)) (h2 : v2 = iblk m c 0 t (ix1 2)) (h3 : v3 = iblk m c 0 t (ix1 3))
    (h4 : v4 = iblk m c 0 t (ix1 4)) (h5 : v5 = iblk m c 0 t (ix1 5)) (h6 : v6 = iblk m c 0 t (ix1 6)) (h7 : v7 = iblk m c 0 t (ix1 7))
    (h8 : v8 = iblk m c 0 t (ix1 8)) (h9 : v9 = iblk m c 0 t (ix1 9)) (h10 : v10 = iblk m c 0 t (ix1 10)) (h11 : v11 = iblk m c 0 t (ix1 11)) :
    RowsI (table z v0 v1 v2 v3 v4 v5 v6 v7 v8 v9 v10 v11) (iblk m c 0 t) := fun a l =>
  table_row (fun a w => w = iblk m c 0 t (ix1 a)) _ _ _ _ _ _ _ _ _ _ _ _ _ a l h0 h1 h2 h3 h4 h5 h6 h7 h8 h9 h10 h11

/-- A value is the scaling of the adapter that row `b` names. -/
def Scales (c : Dev nD) (t : Fin cfg0.N) (b : Fin 12) (v : EReal) : Prop :=
  ∀ k : Fin 5, (iblk m c 0 t (ix1 b) : BitVec 32).toNat = k.val → v = iblk m c 1 t (ix1 k)

theorem rowsS {c : Dev nD} {t : Fin cfg0.N} {z v0 v1 v2 v3 v4 v5 v6 v7 v8 v9 v10 v11 : EReal}
    (h0 : Scales (m := m) c t 0 v0) (h1 : Scales (m := m) c t 1 v1) (h2 : Scales (m := m) c t 2 v2) (h3 : Scales (m := m) c t 3 v3)
    (h4 : Scales (m := m) c t 4 v4) (h5 : Scales (m := m) c t 5 v5) (h6 : Scales (m := m) c t 6 v6) (h7 : Scales (m := m) c t 7 v7)
    (h8 : Scales (m := m) c t 8 v8) (h9 : Scales (m := m) c t 9 v9) (h10 : Scales (m := m) c t 10 v10) (h11 : Scales (m := m) c t 11 v11) :
    RowsS (table z v0 v1 v2 v3 v4 v5 v6 v7 v8 v9 v10 v11) (iblk m c 0 t) (iblk m c 1 t) := fun a l k hk =>
  table_row (Scales (m := m) c t) _ _ _ _ _ _ _ _ _ _ _ _ _ a l h0 h1 h2 h3 h4 h5 h6 h7 h8 h9 h10 h11 k hk

/-- The scaling loaded at the adapter's word. -/
theorem scales (c : Dev nD) (t : Fin cfg0.N) (b : Fin 12) (off : Fin 1 → ℕ) (h) (i) (w : BitVec 32) (hoff : off 0 = w.toNat)
    (hw : w = iblk m c 0 t (ix1 b)) : Scales (m := m) c t b (View.ld (iblk m c 1 t) (Rect.unit off ![1] h) i) := fun k hk =>
  ld_one _ _ _ _ k (by rw [hoff, hw]; exact hk)

end Cert.KernelIdeal.Val

end
-- ==== Proof.Value.OpenFirst.lean ====
/-
  What the first point leaves: the scratch it fills, and its share of the running sums.
-/
module

public import proofs.«01_k».proof.Proof.Value.Tables
public import proofs.«01_k».proof.Proof.Value.OpenMiddle

@[expose] public section

set_option maxRecDepth 16384

noncomputable section

namespace Cert.KernelIdeal.Val

open Cert.KernelIdeal.Gen Cert.KernelIdeal.Body
open Idealize.ShloMosaic Idealize.ShloMosaic.TcCoe Idealize.SL.Sem

local instance : Cert.KernelIdeal.Facts := Cert.KernelIdeal.Gen.facts

variable (m : (ℓ : Loc nD τ sig) → Buf (Elt Ideal) ℓ)

/-- The activations the first point leaves in the scratch: twelve rows of `x`, the others zero. -/
def xPad (x : FVec Ideal S12x3584 .bf16) : FVec Ideal S16x3584 .bf16 :=
  View.canon (Val := Elt Ideal) (s := S16x3584) (e := .bf16)
    [⟨Rect.unit ![0, 0] ![12, 3584] inb_S16x3584_S12x3584_0_0, k0_pay4 (F := Ideal) x⟩, ⟨Rect.unit ![0, 0] ![16, 3584] inb_S16x3584_S16x3584_0_0, k0_pay3 (F := Ideal)⟩]

/-- The same, loaded whole. -/
def xLd (x : FVec Ideal S12x3584 .bf16) : FVec Ideal S16x3584 .bf16 :=
  View.ld (Val := Elt Ideal) (e' := .bf16) (xPad x) (Rect.unit (s := S16x3584) ![0, 0] ![16, 3584] inb_S16x3584_S16x3584_0_0)

theorem xPad_apply (x : FVec Ideal S12x3584 .bf16) (a : Fin 12) (d : Fin 3584) : xPad x (ix2 ⟨a.val, by omega⟩ d) = x (ix2 a d) := by
  have e : (ix2 ⟨a.val, by omega⟩ d : S16x3584.Idx) = (Rect.unit (s := S16x3584) ![0, 0] ![12, 3584] inb_S16x3584_S12x3584_0_0).emb (ix2 a d) := by
    funext b
    fin_cases b <;> refine Fin.ext ?_
    · change a.val = 0 + 1 * a.val; omega
    · change d.val = 0 + 1 * d.val; omega
  unfold xPad
  rw [e, View.canon_cons_emb]
  pointwise [k0_pay4]

theorem xLd_apply (x : FVec Ideal S12x3584 .bf16) (a : Fin 12) (d : Fin 3584) : xLd x (ix2 ⟨a.val, by omega⟩ d) = x (ix2 a d) := by
  refine Eq.trans ?_ (xPad_apply x a d)
  pointwise [xLd]

/-- The rows the first point computes, from its tables. -/
abbrev hA (c : Dev nD) (t : Fin cfg0.N) (I : IVec S16x128 32) (S : FVec Ideal S16x128 .f32) : FVec Ideal S16x512 .bf16 :=
  hOf (mgOf I S (xLd (iblk m c 2 t)) (iblk m c 9 t)) (muOf I S (xLd (iblk m c 2 t)) (iblk m c 9 t)) (xPad (iblk m c 2 t))
    (iblk m c 10 t) (iblk m c 3 t) (iblk m c 4 t) (iblk m c 5 t) (iblk m c 6 t)

theorem x16_A (hH : Hyps m) (c : Dev nD) (t : Fin cfg0.N) (h0 : t.val % 37 = 0) (h1 : ¬t.val % 37 = 36) (j : S16x3584.Idx) :
    (leftA m hH c t h0 h1).x16 j = xPad (iblk m c 2 t) j := by
  unfold leftA runA
  dsimp only
  frame_out

theorem s_A (hH : Hyps m) (c : Dev nD) (t : Fin cfg0.N) (h0 : t.val % 37 = 0) (h1 : ¬t.val % 37 = 36) (j : S12x128.Idx) (v : EReal)
    (h : ∀ I S, RowsI I (iblk m c 0 t) → RowsS S (iblk m c 0 t) (iblk m c 1 t) → extractStridedSlice S12x128 ![0, 0] (sRow I S (xLd (iblk m c 2 t)) (iblk m c 9 t)) slices_S16x128_o0_0_S12x128 j = v) :
    sOf m hH c t h0 h1 j = v := by
  unfold sOf runA
  dsimp only
  frame_out
  generalize hI : (k0_pay33 _ _ _ _ _ : IVec S16x128 32) = I
  have hI' : RowsI I (iblk m c 0 t) := by
    clear h
    subst hI
    refine rowsI ?_ ?_ ?_ ?_ ?_ ?_ ?_ ?_ ?_ ?_ ?_ ?_ <;> exact ld_one _ _ _ _ _ rfl
  clear hI
  generalize hS : (k0_pay34 _ _ _ _ : FVec Ideal S16x128 .f32) = S
  have hS' : RowsS S (iblk m c 0 t) (iblk m c 1 t) := by
    clear h hI'
    subst hS
    refine rowsS ?_ ?_ ?_ ?_ ?_ ?_ ?_ ?_ ?_ ?_ ?_ ?_ <;> exact scales c t _ _ _ _ _ rfl (ld_word m c t _ _ _ _ rfl)
  clear hS
  refine Eq.trans ?_ (h I S hI' hS')
  clear h hI' hS'
  simp only [View.readCov_eq_canon']
  sl_kernel_rfl

theorem mg_A (hH : Hyps m) (c : Dev nD) (t : Fin cfg0.N) (h0 : t.val % 37 = 0) (h1 : ¬t.val % 37 = 36) (j : S16x320.Idx) (v : EReal)
    (h : ∀ I S, RowsI I (iblk m c 0 t) → RowsS S (iblk m c 0 t) (iblk m c 1 t) → mgOf I S (xLd (iblk m c 2 t)) (iblk m c 9 t) j = v) :
    (leftA m hH c t h0 h1).mg j = v := by
  unfold leftA runA
  dsimp only
  frame_out
  generalize hI : (k0_pay33 _ _ _ _ _ : IVec S16x128 32) = I
  have hI' : RowsI I (iblk m c 0 t) := by
    clear h
    subst hI
    refine rowsI ?_ ?_ ?_ ?_ ?_ ?_ ?_ ?_ ?_ ?_ ?_ ?_ <;> exact ld_one _ _ _ _ _ rfl
  clear hI
  generalize hS : (k0_pay34 _ _ _ _ : FVec Ideal S16x128 .f32) = S
  have hS' : RowsS S (iblk m c 0 t) (iblk m c 1 t) := by
    clear h hI'
    subst hS
    refine rowsS ?_ ?_ ?_ ?_ ?_ ?_ ?_ ?_ ?_ ?_ ?_ ?_ <;> exact scales c t _ _ _ _ _ rfl (ld_word m c t _ _ _ _ rfl)
  clear hS
  refine Eq.trans ?_ (h I S hI' hS')
  clear h hI' hS'
  simp only [View.readCov_eq_canon']
  sl_kernel_rfl

theorem mu_A (hH : Hyps m) (c : Dev nD) (t : Fin cfg0.N) (h0 : t.val % 37 = 0) (h1 : ¬t.val % 37 = 36) (j : S16x320.Idx) (v : EReal)
    (h : ∀ I S, RowsI I (iblk m c 0 t) → RowsS S (iblk m c 0 t) (iblk m c 1 t) → muOf I S (xLd (iblk m c 2 t)) (iblk m c 9 t) j = v) :
    (leftA m hH c t h0 h1).mu j = v := by
  unfold leftA runA
  dsimp only
  frame_out
  generalize hI : (k0_pay33 _ _ _ _ _ : IVec S16x128 32) = I
  have hI' : RowsI I (iblk m c 0 t) := by
    clear h
    subst hI
    refine rowsI ?_ ?_ ?_ ?_ ?_ ?_ ?_ ?_ ?_ ?_ ?_ ?_ <;> exact ld_one _ _ _ _ _ rfl
  clear hI
  generalize hS : (k0_pay34 _ _ _ _ : FVec Ideal S16x128 .f32) = S
  have hS' : RowsS S (iblk m c 0 t) (iblk m c 1 t) := by
    clear h hI'
    subst hS
    refine rowsS ?_ ?_ ?_ ?_ ?_ ?_ ?_ ?_ ?_ ?_ ?_ ?_ <;> exact scales c t _ _ _ _ _ rfl (ld_word m c t _ _ _ _ rfl)
  clear hS
  refine Eq.trans ?_ (h I S hI' hS')
  clear h hI' hS'
  simp only [View.readCov_eq_canon']
  sl_kernel_rfl

theorem h_A (hH : Hyps m) (c : Dev nD) (t : Fin cfg0.N) (h0 : t.val % 37 = 0) (h1 : ¬t.val % 37 = 36) (j : S12x512.Idx) (v : EReal)
    (h : ∀ I S, RowsI I (iblk m c 0 t) → RowsS S (iblk m c 0 t) (iblk m c 1 t) → rows12 (hA m c t I S) j = v) :
    (leftA m hH c t h0 h1).h j = v := by
  unfold leftA runA
  dsimp only
  frame_out
  generalize hI : (k0_pay33 _ _ _ _ _ : IVec S16x128 32) = I
  have hI' : RowsI I (iblk m c 0 t) := by
    clear h
    subst hI
    refine rowsI ?_ ?_ ?_ ?_ ?_ ?_ ?_ ?_ ?_ ?_ ?_ ?_ <;> exact ld_one _ _ _ _ _ rfl
  clear hI
  generalize hS : (k0_pay34 _ _ _ _ : FVec Ideal S16x128 .f32) = S
  have hS' : RowsS S (iblk m c 0 t) (iblk m c 1 t) := by
    clear h hI'
    subst hS
    refine rowsS ?_ ?_ ?_ ?_ ?_ ?_ ?_ ?_ ?_ ?_ ?_ ?_ <;> exact scales c t _ _ _ _ _ rfl (ld_word m c t _ _ _ _ rfl)
  clear hS
  refine Eq.trans ?_ (h I S hI' hS')
  clear h hI' hS'
  simp only [View.readCov_eq_canon']
  sl_kernel_rfl

theorem y_A (hH : Hyps m) (c : Dev nD) (t : Fin cfg0.N) (h0 : t.val % 37 = 0) (h1 : ¬t.val % 37 = 36) (j : S16x3584.Idx) (v : EReal)
    (h : ∀ I S, RowsI I (iblk m c 0 t) → RowsS S (iblk m c 0 t) (iblk m c 1 t) → downOf (ptB t) (hA m c t I S) (sdB m c t) k0_pay36 (iblk m c 7 t) j = v) :
    (leftA m hH c t h0 h1).y j = v := by
  unfold leftA runA
  dsimp only
  frame_out
  generalize hI : (k0_pay33 _ _ _ _ _ : IVec S16x128 32) = I
  have hI' : RowsI I (iblk m c 0 t) := by
    clear h
    subst hI
    refine rowsI ?_ ?_ ?_ ?_ ?_ ?_ ?_ ?_ ?_ ?_ ?_ ?_ <;> exact ld_one _ _ _ _ _ rfl
  clear hI
  generalize hS : (k0_pay34 _ _ _ _ : FVec Ideal S16x128 .f32) = S
  have hS' : RowsS S (iblk m c 0 t) (iblk m c 1 t) := by
    clear h hI'
    subst hS
    refine rowsS ?_ ?_ ?_ ?_ ?_ ?_ ?_ ?_ ?_ ?_ ?_ ?_ <;> exact scales c t _ _ _ _ _ rfl (ld_word m c t _ _ _ _ rfl)
  clear hS
  refine Eq.trans ?_ (h I S hI' hS')
  clear h hI' hS'
  simp only [View.readCov_eq_canon']
  sl_kernel_rfl

theorem tt_A (hH : Hyps m) (c : Dev nD) (t : Fin cfg0.N) (h0 : t.val % 37 = 0) (h1 : ¬t.val % 37 = 36) (j : S320x16.Idx) (v : EReal)
    (h : ∀ I S, RowsI I (iblk m c 0 t) → RowsS S (iblk m c 0 t) (iblk m c 1 t) → k0_pay1 (k0_pay91 (hA m c t I S) (k0_pay37 (F := Ideal)) (iblk m c 11 t)) j = v) :
    (leftA m hH c t h0 h1).tt j = v := by
  unfold leftA runA
  dsimp only
  frame_out
  generalize hI : (k0_pay33 _ _ _ _ _ : IVec S16x128 32) = I
  have hI' : RowsI I (iblk m c 0 t) := by
    clear h
    subst hI
    refine rowsI ?_ ?_ ?_ ?_ ?_ ?_ ?_ ?_ ?_ ?_ ?_ ?_ <;> exact ld_one _ _ _ _ _ rfl
  clear hI
  generalize hS : (k0_pay34 _ _ _ _ : FVec Ideal S16x128 .f32) = S
  have hS' : RowsS S (iblk m c 0 t) (iblk m c 1 t) := by
    clear h hI'
    subst hS
    refine rowsS ?_ ?_ ?_ ?_ ?_ ?_ ?_ ?_ ?_ ?_ ?_ ?_ <;> exact scales c t _ _ _ _ _ rfl (ld_word m c t _ _ _ _ rfl)
  clear hS
  refine Eq.trans ?_ (h I S hI' hS')
  clear h hI' hS'
  simp only [View.readCov_eq_canon']
  sl_kernel_rfl

end Cert.KernelIdeal.Val

end
-- ==== Proof.Value.OpenLast.lean ====
/-
  What the last point leaves: besides the running sums, `t` and the output.
-/
module

public import proofs.«01_k».proof.Proof.Value.Tables
public import proofs.«01_k».proof.Proof.Value.OpenMiddle

@[expose] public section

set_option maxRecDepth 16384

noncomputable section

namespace Cert.KernelIdeal.Val

open Cert.KernelIdeal.Gen Cert.KernelIdeal.Body
open Idealize.ShloMosaic Idealize.ShloMosaic.TcCoe Idealize.SL.Sem

local instance : Cert.KernelIdeal.Facts := Cert.KernelIdeal.Gen.facts

variable (m : (ℓ : Loc nD τ sig) → Buf (Elt Ideal) ℓ)

theorem h_C (hH : Hyps m) (c : Dev nD) (t : Fin cfg0.N) (h0 : ¬t.val % 37 = 0) (h1 : t.val % 37 = 36) (s : Vec Ideal S12x128 .bf16) (p : Left Ideal) (j : S12x512.Idx) :
    (leftC m hH c t h0 h1 s p).h j = rows12 (hB m c t p) j := by
  unfold leftC runC
  dsimp only
  frame_out
  simp only [Memref.IsWhole.read_unread, read_unread_whole]
  sl_kernel_rfl

theorem y_C (hH : Hyps m) (c : Dev nD) (t : Fin cfg0.N) (h0 : ¬t.val % 37 = 0) (h1 : t.val % 37 = 36) (s : Vec Ideal S12x128 .bf16) (p : Left Ideal) (j : S16x3584.Idx) :
    (leftC m hH c t h0 h1 s p).y j = downOf (ptB t) (hB m c t p) (sdB m c t) p.y (iblk m c 7 t) j := by
  unfold leftC runC
  dsimp only
  frame_out
  simp only [Memref.IsWhole.read_unread, read_unread_whole]
  sl_kernel_rfl

theorem tt_C (hH : Hyps m) (c : Dev nD) (t : Fin cfg0.N) (h0 : ¬t.val % 37 = 0) (h1 : t.val % 37 = 36) (s : Vec Ideal S12x128 .bf16) (p : Left Ideal) (j : S320x16.Idx) :
    (leftC m hH c t h0 h1 s p).tt j = k0_pay1 (k0_pay91 (hB m c t p) p.tt (iblk m c 11 t)) j := by
  unfold leftC runC
  dsimp only
  frame_out
  simp only [Memref.IsWhole.read_unread, read_unread_whole]
  sl_kernel_rfl

theorem t_C (hH : Hyps m) (c : Dev nD) (t : Fin cfg0.N) (h0 : ¬t.val % 37 = 0) (h1 : t.val % 37 = 36) (s : Vec Ideal S12x128 .bf16) (p : Left Ideal) (j : S12x64.Idx) (v : EReal)
    (h : ∀ I S, RowsI I (iblk m c 0 t) → RowsS S (iblk m c 0 t) (iblk m c 1 t) →
      k0_pay23 I S (k0_pay1 (k0_pay91 (hB m c t p) p.tt (iblk m c 11 t))) j = v) :
    (leftC m hH c t h0 h1 s p).t16 j = v := by
  unfold leftC runC
  dsimp only
  frame_out
  generalize hI : (k0_pay33 _ _ _ _ _ : IVec S16x128 32) = I
  have hI' : RowsI I (iblk m c 0 t) := by
    clear h
    subst hI
    refine rowsI ?_ ?_ ?_ ?_ ?_ ?_ ?_ ?_ ?_ ?_ ?_ ?_ <;> exact ld_one _ _ _ _ _ rfl
  clear hI
  generalize hS : (k0_pay34 _ _ _ _ : FVec Ideal S16x128 .f32) = S
  have hS' : RowsS S (iblk m c 0 t) (iblk m c 1 t) := by
    clear h hI'
    subst hS
    refine rowsS ?_ ?_ ?_ ?_ ?_ ?_ ?_ ?_ ?_ ?_ ?_ ?_ <;> exact scales c t _ _ _ _ _ rfl (ld_word m c t _ _ _ _ rfl)
  clear hS
  refine Eq.trans ?_ (h I S hI' hS')
  clear h hI' hS'
  simp only [Memref.IsWhole.read_unread, read_unread_whole]
  sl_kernel_rfl

theorem out_C (hH : Hyps m) (c : Dev nD) (t : Fin cfg0.N) (h0 : ¬t.val % 37 = 0) (h1 : t.val % 37 = 36) (s : Vec Ideal S12x128 .bf16) (p : Left Ideal) (j : S12x3584.Idx) (v : EReal)
    (h : ∀ I S, RowsI I (iblk m c 0 t) → RowsS S (iblk m c 0 t) (iblk m c 1 t) →
      k0_pay2 I (k0_pay22 I S (k0_pay1 (k0_pay91 (hB m c t p) p.tt (iblk m c 11 t))))
        (downOf (ptB t) (hB m c t p) (sdB m c t) p.y (iblk m c 7 t)) (iblk m c 12 t) j = v) :
    (leftC m hH c t h0 h1 s p).out j = v := by
  unfold leftC runC
  dsimp only
  frame_out
  generalize hI : (k0_pay33 _ _ _ _ _ : IVec S16x128 32) = I
  have hI' : RowsI I (iblk m c 0 t) := by
    clear h
    subst hI
    refine rowsI ?_ ?_ ?_ ?_ ?_ ?_ ?_ ?_ ?_ ?_ ?_ ?_ <;> exact ld_one _ _ _ _ _ rfl
  clear hI
  generalize hS : (k0_pay34 _ _ _ _ : FVec Ideal S16x128 .f32) = S
  have hS' : RowsS S (iblk m c 0 t) (iblk m c 1 t) := by
    clear h hI'
    subst hS
    refine rowsS ?_ ?_ ?_ ?_ ?_ ?_ ?_ ?_ ?_ ?_ ?_ ?_ <;> exact scales c t _ _ _ _ _ rfl (ld_word m c t _ _ _ _ rfl)
  clear hS
  refine Eq.trans ?_ (h I S hI' hS')
  clear h hI' hS'
  simp only [Memref.IsWhole.read_unread, read_unread_whole]
  sl_kernel_rfl

end Cert.KernelIdeal.Val

end
-- ==== Proof.Value.Points.lean ====
/-
  What one point computes, in the terms of the specification.
-/
module

public import proofs.«01_k».proof.Proof.Value.Host
public import proofs.«01_k».proof.Proof.Value.OpenFirst
public import proofs.«01_k».proof.Proof.Value.OpenLast

@[expose] public section

set_option maxRecDepth 16384

noncomputable section

namespace Cert.KernelIdeal.Val

open Cert.KernelIdeal.Gen Cert.KernelIdeal.Body
open Idealize.ShloMosaic Idealize.ShloMosaic.TcCoe Idealize.SL.Sem

local instance : Cert.KernelIdeal.Facts := Cert.KernelIdeal.Gen.facts

variable (m : (ℓ : Loc nD τ sig) → Buf (Elt Ideal) ℓ) (c : Dev nD)

/-- A sum against a spread row has only its own adapter's places. -/
theorem spread_sum (v : Fin 128 → EReal) (n : Fin 5) (Y : Fin 5 → Fin 64 → EReal) (u : Fin 64 → EReal)
    (hu : ∀ (l : Fin 128) (r : Fin 64), l.val % 64 = r.val → v l = u r) :
    (∑ q : Fin 320, spreadAt v n q * Y ⟨q.val / 64, by omega⟩ ⟨q.val % 64, by omega⟩) = ∑ r : Fin 64, u r * Y n r := by
  have e : (∑ k : Fin 5, ∑ r : Fin 64, (if k = n then u r * Y k r else 0)) =
      ∑ q : Fin 320, spreadAt v n q * Y ⟨q.val / 64, by omega⟩ ⟨q.val % 64, by omega⟩ := by
    refine Fin.sum_mul_add_congr fun k r hl => ?_
    have e1 : (⟨(k.val * 64 + r.val) / 64, by omega⟩ : Fin 5) = k := Fin.ext (by dsimp only; omega)
    have e2 : (⟨(k.val * 64 + r.val) % 64, by omega⟩ : Fin 64) = r := Fin.ext (by dsimp only; omega)
    have e3 : (k.val * 64 + r.val) / 64 = k.val := by omega
    dsimp only [spreadAt]
    rw [e1, e2, e3, hu _ r (by dsimp only; omega)]
    by_cases h : k = n
    · rw [if_pos h, if_pos (congrArg Fin.val h)]
    · rw [if_neg h, if_neg (fun h' => h (Fin.ext h')), zero_mul]
  rw [← e, Finset.sum_eq_single n]
  · exact Finset.sum_congr rfl fun r _ => if_pos rfl
  · intro k _ h
    exact Finset.sum_eq_zero fun r _ => if_neg h
  · exact fun h => absurd (Finset.mem_univ n) h

/-- The scratch holds the rows of `x` and of `s`, spread. -/
structure Fixed (p : Left Ideal) : Prop where
  x16 : ∀ (a : Fin 12) (d : Fin 3584), p.x16 (ix2 ⟨a.val, by omega⟩ d) = (args m c).x a d
  mg : ∀ (a : Fin 12) (q : Fin 320), p.mg (ix2 ⟨a.val, by omega⟩ q) =
    spreadAt (fun l => Cert.Spec.s (args m c) a ⟨l.val % 64, by omega⟩) ((args m c).n a) q
  mu : ∀ (a : Fin 12) (q : Fin 320), p.mu (ix2 ⟨a.val, by omega⟩ q) =
    spreadAt (fun l => Cert.Spec.s (args m c) a ⟨64 + l.val % 64, by omega⟩) ((args m c).n a) q

/-- The rows of `h` that a point computes. -/
theorem hRow (t : Fin cfg0.N) (M M' : FVec Ideal S16x320 .bf16) (X : FVec Ideal S16x3584 .bf16)
    (hX : ∀ (a : Fin 12) (d : Fin 3584), X (ix2 ⟨a.val, by omega⟩ d) = (args m c).x a d)
    (hM : ∀ (a : Fin 12) (q : Fin 320), M (ix2 ⟨a.val, by omega⟩ q) =
      spreadAt (fun l => Cert.Spec.s (args m c) a ⟨l.val % 64, by omega⟩) ((args m c).n a) q)
    (hM' : ∀ (a : Fin 12) (q : Fin 320), M' (ix2 ⟨a.val, by omega⟩ q) =
      spreadAt (fun l => Cert.Spec.s (args m c) a ⟨64 + l.val % 64, by omega⟩) ((args m c).n a) q)
    (a : Fin 12) (f : Fin 512) :
    hOf M M' X (iblk m c 10 t) (iblk m c 3 t) (iblk m c 4 t) (iblk m c 5 t) (iblk m c 6 t) (ix2 ⟨a.val, by omega⟩ f) =
      Cert.Spec.h (args m c) a ⟨512 * t.val + f.val, by have := t_lt t; omega⟩ := by
  have hg : gateOf M X (iblk m c 10 t) (iblk m c 3 t) (iblk m c 5 t) (ix2 ⟨a.val, by omega⟩ f) =
      Cert.Spec.gate (args m c) a ⟨512 * t.val + f.val, by have := t_lt t; omega⟩ := by
    rw [gateOf_apply]
    simp only [projTerm, blk10, blk3, blk5, hX, hM]
    refine congrArg₂ (· + ·) ?_ rfl
    exact spread_sum _ _ (fun k r => (args m c).B k 0 r _) _ fun l r h => congrArg (Cert.Spec.s (args m c) a) (Fin.ext h)
  have hu : upOf M' X (iblk m c 10 t) (iblk m c 4 t) (iblk m c 6 t) (ix2 ⟨a.val, by omega⟩ f) =
      Cert.Spec.up (args m c) a ⟨512 * t.val + f.val, by have := t_lt t; omega⟩ := by
    rw [upOf_apply]
    simp only [projTerm, blk10, blk4, blk6, hX, hM']
    refine congrArg₂ (· + ·) ?_ rfl
    exact spread_sum _ _ (fun k r => (args m c).B k 1 r _) _ fun l r h => congrArg (Cert.Spec.s (args m c) a) (Fin.ext (by dsimp only; omega))
  rw [hOf_apply, hg, hu]
  rfl

/-- A point's step of the down projection. -/
theorem yRow (t : Fin cfg0.N) (hv : FVec Ideal S16x512 .bf16) (y : FVec Ideal S16x3584 .f32) (a : Fin 12)
    (hh : ∀ f : Fin 512, hv (ix2 ⟨a.val, by omega⟩ f) = Cert.Spec.h (args m c) a ⟨512 * t.val + f.val, by have := t_lt t; omega⟩) (d : Fin 3584) :
    downOf (ptB t) hv (sdB m c t) y (iblk m c 7 t) (ix2 ⟨a.val, by omega⟩ d) = y (ix2 ⟨a.val, by omega⟩ d) +
      ∑ f : Fin 512, Cert.Spec.downTerm (args m c) a d ⟨512 * t.val + f.val, by have := t_lt t; omega⟩ := by
  have ht := t_lt t
  rw [down_step]
  refine congrArg (y _ + ·) (Finset.sum_congr rfl fun f _ => ?_)
  rw [hh, blk7, sdPick_apply]
  have e1 : (⟨64 * t.val + f.val / 8, by omega⟩ : Fin 2368) = ⟨(512 * t.val + f.val) / 8, by omega⟩ := Fin.ext (by dsimp only; omega)
  have e2 : (⟨4 * t.val + f.val / 128, by omega⟩ : Fin 148) = ⟨(512 * t.val + f.val) / 128, by omega⟩ := Fin.ext (by dsimp only; omega)
  have e3 : f.val % 8 = (512 * t.val + f.val) % 8 := by omega
  unfold Cert.Spec.downTerm
  dsimp only
  rw [e1, e2, e3]

/-- A point's step of the adapters' second factor. -/
theorem ttRow (t : Fin cfg0.N) (hv : FVec Ideal S16x512 .bf16) (tt : FVec Ideal S320x16 .f32) (a : Fin 12)
    (hh : ∀ f : Fin 512, hv (ix2 ⟨a.val, by omega⟩ f) = Cert.Spec.h (args m c) a ⟨512 * t.val + f.val, by have := t_lt t; omega⟩) (q : Fin 320) :
    k0_pay1 (k0_pay91 hv tt (iblk m c 11 t)) (ix2 q ⟨a.val, by omega⟩) = tt (ix2 q ⟨a.val, by omega⟩) +
      ∑ f : Fin 512, (fun F => Cert.Spec.h (args m c) a F * (args m c).Ad ⟨q.val / 64, by omega⟩ F ⟨q.val % 64, by omega⟩) ⟨512 * t.val + f.val, by have := t_lt t; omega⟩ := by
  rw [tt_step]
  refine congrArg (tt _ + ·) (Finset.sum_congr rfl fun f _ => ?_)
  rw [hh, blk11, mul_comm]

end Cert.KernelIdeal.Val

end
-- ==== Proof.Value.Carry.lean ====
/-
  What the points leave, one after the other: the fixed scratch, the block of `h`, the running sums; and at the last point
  `t` and the output.
-/
module

public import proofs.«01_k».proof.Proof.Value.Points

@[expose] public section

set_option maxRecDepth 16384

noncomputable section

namespace Cert.KernelIdeal.Val

open Cert.KernelIdeal.Gen Cert.KernelIdeal.Body
open Idealize.ShloMosaic Idealize.ShloMosaic.TcCoe Idealize.SL.Sem

local instance : Cert.KernelIdeal.Facts := Cert.KernelIdeal.Gen.facts

variable (m : (ℓ : Loc nD τ sig) → Buf (Elt Ideal) ℓ) (c : Dev nD)

/-- Every row names an adapter. -/
def Names : Prop := ∀ a : Fin 12, (m ((c.tc : Thread nD τ).loc main_arg1) (ix1 a) : BitVec 32).toNat < 5

variable {m c}

theorem n_val (hN : Names m c) (a : Fin 12) : (m ((c.tc : Thread nD τ).loc main_arg1) (ix1 a) : BitVec 32).toNat = ((args m c).n a).val :=
  (Nat.mod_eq_of_lt (hN a)).symm

theorem I_row (hN : Names m c) {t : Fin cfg0.N} {I : IVec S16x128 32} (hI : RowsI I (iblk m c 0 t)) (a : Fin 12) (l : Fin 128) :
    I (ix2 ⟨a.val, by omega⟩ l) = BitVec.ofNat 32 ((args m c).n a).val := by
  rw [hI a l]
  refine (blk0 m c t a).trans (BitVec.eq_of_toNat_eq ?_)
  refine (n_val hN a).trans ?_
  have := ((args m c).n a).isLt
  rw [BitVec.toNat_ofNat, Nat.mod_eq_of_lt (by omega)]

theorem S_row (hN : Names m c) {t : Fin cfg0.N} {S : FVec Ideal S16x128 .f32} (hS : RowsS S (iblk m c 0 t) (iblk m c 1 t)) (a : Fin 12) (l : Fin 128) :
    S (ix2 ⟨a.val, by omega⟩ l) = (args m c).sc ((args m c).n a) := by
  refine (hS a l ((args m c).n a) ?_).trans (blk1 m c t _)
  refine Eq.trans (congrArg BitVec.toNat (blk0 m c t a)) (n_val hN a)

theorem sRow_apply (hN : Names m c) {t : Fin cfg0.N} {I : IVec S16x128 32} {S : FVec Ideal S16x128 .f32} (hI : RowsI I (iblk m c 0 t))
    (hS : RowsS S (iblk m c 0 t) (iblk m c 1 t)) (a : Fin 12) (l : Fin 128) :
    sRow I S (xLd (iblk m c 2 t)) (iblk m c 9 t) (ix2 ⟨a.val, by omega⟩ l) = Cert.Spec.s (args m c) a l := by
  unfold sRow
  rw [s_pay _ _ _ _ _ _ _ (I_row hN hI a l), S_row hN hS]
  simp only [xLd_apply, blk2, blk9]
  rfl

/-- The block of `s`. -/
theorem sAt_apply (hH : Hyps m) (hN : Names m c) (a : Fin 12) (l : Fin 128) : sAt m hH c (ix2 a l) = Cert.Spec.s (args m c) a l := by
  unfold sAt
  refine s_A m hH c _ _ _ _ _ fun I S hI hS => ?_
  refine Eq.trans ?_ (sRow_apply hN hI hS a l)
  generalize sRow I S _ _ = v
  pointwise

/-- A point's share of a sum over the hidden places. -/
def part (T : Fin 18944 → EReal) (i : ℕ) : EReal := ∑ f : Fin 512, if h : 512 * i + f.val < 18944 then T ⟨512 * i + f.val, h⟩ else 0

theorem part_eq (T : Fin 18944 → EReal) (t : Fin cfg0.N) :
    (∑ f : Fin 512, T ⟨512 * t.val + f.val, by have := t_lt t; omega⟩) = part T t.val := by
  refine Finset.sum_congr rfl fun f _ => ?_
  have hf : 512 * t.val + f.val < 18944 := by have := t_lt t; omega
  rw [dif_pos hf]

theorem part_all (T : Fin 18944 → EReal) : ∑ i ∈ Finset.range 37, part T i = ∑ F, T F := by
  rw [Finset.sum_range]
  refine Fin.sum_mul_add_congr fun i f hl => ?_
  rw [dif_pos (by omega)]
  exact congrArg T (Fin.ext (by dsimp only; omega))

/-- The term of the adapters' second factor. -/
def tTerm (P : Cert.Spec.Args) (a : Fin 12) (q : Fin 320) (F : Fin 18944) : EReal :=
  Cert.Spec.h P a F * P.Ad ⟨q.val / 64, by omega⟩ F ⟨q.val % 64, by omega⟩

variable (m c) in
/-- What point `n` leaves. -/
structure State (n : ℕ) (p : Left Ideal) : Prop extends Fixed m c p where
  h : ∀ (a : Fin 12) (f : Fin 512) (hf : 512 * n + f.val < 18944), p.h (ix2 a f) = Cert.Spec.h (args m c) a ⟨512 * n + f.val, hf⟩
  y : ∀ (a : Fin 12) (d : Fin 3584), p.y (ix2 ⟨a.val, by omega⟩ d) = ∑ i ∈ Finset.range (n + 1), part (Cert.Spec.downTerm (args m c) a d) i
  tt : ∀ (a : Fin 12) (q : Fin 320), p.tt (ix2 q ⟨a.val, by omega⟩) = ∑ i ∈ Finset.range (n + 1), part (tTerm (args m c) a q) i

theorem first (hH : Hyps m) (hN : Names m c) (t : Fin cfg0.N) (ht : t.val = 0) (h0 : t.val % 37 = 0) (h1 : ¬t.val % 37 = 36) :
    State m c 0 (leftA m hH c t h0 h1) := by
  have hX : ∀ (a : Fin 12) (d : Fin 3584), xPad (iblk m c 2 t) (ix2 ⟨a.val, by omega⟩ d) = (args m c).x a d := fun a d =>
    (xPad_apply _ a d).trans (blk2 m c t a d)
  have hM : ∀ {I S}, RowsI I (iblk m c 0 t) → RowsS S (iblk m c 0 t) (iblk m c 1 t) → ∀ (a : Fin 12) (q : Fin 320),
      mgOf I S (xLd (iblk m c 2 t)) (iblk m c 9 t) (ix2 ⟨a.val, by omega⟩ q) =
        spreadAt (fun l => Cert.Spec.s (args m c) a ⟨l.val % 64, by omega⟩) ((args m c).n a) q := fun hI hS a q => by
    rw [mgOf_apply _ _ _ _ _ _ _ (I_row hN hI a)]
    simp only [sRow_apply hN hI hS]
  have hM' : ∀ {I S}, RowsI I (iblk m c 0 t) → RowsS S (iblk m c 0 t) (iblk m c 1 t) → ∀ (a : Fin 12) (q : Fin 320),
      muOf I S (xLd (iblk m c 2 t)) (iblk m c 9 t) (ix2 ⟨a.val, by omega⟩ q) =
        spreadAt (fun l => Cert.Spec.s (args m c) a ⟨64 + l.val % 64, by omega⟩) ((args m c).n a) q := fun hI hS a q => by
    rw [muOf_apply _ _ _ _ _ _ _ (I_row hN hI a)]
    simp only [sRow_apply hN hI hS]
  have hh : ∀ {I S}, RowsI I (iblk m c 0 t) → RowsS S (iblk m c 0 t) (iblk m c 1 t) → ∀ (a : Fin 12) (f : Fin 512),
      hA m c t I S (ix2 ⟨a.val, by omega⟩ f) = Cert.Spec.h (args m c) a ⟨512 * t.val + f.val, by omega⟩ := fun hI hS a f =>
    hRow m c t _ _ _ hX (hM hI hS) (hM' hI hS) a f
  have z36 (a : Fin 16) (d : Fin 3584) : k0_pay36 (F := Ideal) (ix2 a d) = 0 := by
    pointwise [k0_pay36]
  have z37 (q : Fin 320) (a : Fin 16) : k0_pay37 (F := Ideal) (ix2 q a) = 0 := by
    pointwise [k0_pay37]
  refine { x16 := fun a d => ?_, mg := fun a q => ?_, mu := fun a q => ?_, h := fun a f hf => ?_, y := fun a d => ?_, tt := fun a q => ?_ }
  · exact (x16_A m hH c t h0 h1 _).trans (hX a d)
  · exact mg_A m hH c t h0 h1 _ _ fun I S hI hS => hM hI hS a q
  · exact mu_A m hH c t h0 h1 _ _ fun I S hI hS => hM' hI hS a q
  · refine h_A m hH c t h0 h1 _ _ fun I S hI hS => ?_
    rw [rows12_apply, hh hI hS]
    exact congrArg (Cert.Spec.h (args m c) a) (Fin.ext (by dsimp only; omega))
  · refine y_A m hH c t h0 h1 _ _ fun I S hI hS => ?_
    rw [yRow m c t _ _ a (hh hI hS a), z36, zero_add, part_eq, ht, Finset.sum_range_one]
  · refine tt_A m hH c t h0 h1 _ _ fun I S hI hS => ?_
    rw [ttRow m c t _ _ a (hh hI hS a), z37, zero_add, Finset.sum_range_one]
    refine (part_eq (tTerm (args m c) a q) t).trans ?_
    rw [ht]

/-- The rows of `h` that a later point computes. -/
theorem hB_apply (t : Fin cfg0.N) {p : Left Ideal} (hp : Fixed m c p) (a : Fin 12) (f : Fin 512) :
    hB m c t p (ix2 ⟨a.val, by omega⟩ f) = Cert.Spec.h (args m c) a ⟨512 * t.val + f.val, by have := t_lt t; omega⟩ :=
  hRow m c t _ _ _ hp.x16 hp.mg hp.mu a f

theorem y_next (t : Fin cfg0.N) {n : ℕ} (ht : t.val = n + 1) {p : Left Ideal} (hp : State m c n p) (a : Fin 12) (d : Fin 3584) :
    downOf (ptB t) (hB m c t p) (sdB m c t) p.y (iblk m c 7 t) (ix2 ⟨a.val, by omega⟩ d) =
      ∑ i ∈ Finset.range (n + 1 + 1), part (Cert.Spec.downTerm (args m c) a d) i := by
  rw [yRow m c t _ _ a (hB_apply t hp.toFixed a), hp.y, part_eq, ht, Finset.sum_range_succ _ (n + 1)]

theorem tt_next (t : Fin cfg0.N) {n : ℕ} (ht : t.val = n + 1) {p : Left Ideal} (hp : State m c n p) (a : Fin 12) (q : Fin 320) :
    k0_pay1 (k0_pay91 (hB m c t p) p.tt (iblk m c 11 t)) (ix2 q ⟨a.val, by omega⟩) =
      ∑ i ∈ Finset.range (n + 1 + 1), part (tTerm (args m c) a q) i := by
  rw [ttRow m c t _ _ a (hB_apply t hp.toFixed a), hp.tt, Finset.sum_range_succ _ (n + 1)]
  refine congrArg (_ + ·) ((part_eq (tTerm (args m c) a q) t).trans ?_)
  rw [ht]

/-- A later point's state from the one before. -/
theorem next (t : Fin cfg0.N) {n : ℕ} (ht : t.val = n + 1) {p q : Left Ideal} (hp : State m c n p)
    (e1 : q.x16 = p.x16) (e2 : q.mg = p.mg) (e3 : q.mu = p.mu) (e4 : ∀ j, q.h j = rows12 (hB m c t p) j)
    (e5 : ∀ j, q.y j = downOf (ptB t) (hB m c t p) (sdB m c t) p.y (iblk m c 7 t) j)
    (e6 : ∀ j, q.tt j = k0_pay1 (k0_pay91 (hB m c t p) p.tt (iblk m c 11 t)) j) : State m c (n + 1) q where
  x16 a d := (congrFun e1 _).trans (hp.x16 a d)
  mg a d := (congrFun e2 _).trans (hp.mg a d)
  mu a d := (congrFun e3 _).trans (hp.mu a d)
  h a f hf := by
    rw [e4, rows12_apply, hB_apply t hp.toFixed]
    exact congrArg (Cert.Spec.h (args m c) a) (Fin.ext (by dsimp only; omega))
  y a d := (e5 _).trans (y_next t ht hp a d)
  tt a d := (e6 _).trans (tt_next t ht hp a d)

theorem before_state (hH : Hyps m) (n : ℕ) (hn : n + 1 < cfg0.N) (ih : State m c n (leftAt m hH c n (Nat.lt_of_succ_lt hn))) :
    State m c n (leftBefore m hH c ⟨n + 1, hn⟩) := by
  unfold leftBefore
  exact ih

theorem next_B (hH : Hyps m) (t : Fin cfg0.N) {n : ℕ} (ht : t.val = n + 1) (h0 : ¬t.val % 37 = 0) (h1 : ¬t.val % 37 = 36) (p : Left Ideal)
    (hp : State m c n p) : State m c (n + 1) (leftB m hH c t h0 h1 p) := by
  have e1 : (leftB m hH c t h0 h1 p).x16 = p.x16 := by unfold leftB; rfl
  have e2 : (leftB m hH c t h0 h1 p).mg = p.mg := by unfold leftB; rfl
  have e3 : (leftB m hH c t h0 h1 p).mu = p.mu := by unfold leftB; rfl
  have e4 := h_B m hH c t h0 h1 p
  have e5 := y_B m hH c t h0 h1 p
  have e6 := tt_B m hH c t h0 h1 p
  generalize leftB m hH c t h0 h1 p = q at *
  exact next t ht hp e1 e2 e3 e4 e5 e6

theorem next_C (hH : Hyps m) (t : Fin cfg0.N) {n : ℕ} (ht : t.val = n + 1) (h0 : ¬t.val % 37 = 0) (h1 : t.val % 37 = 36) (s : Vec Ideal S12x128 .bf16) (p : Left Ideal)
    (hp : State m c n p) : State m c (n + 1) (leftC m hH c t h0 h1 s p) := by
  have e1 : (leftC m hH c t h0 h1 s p).x16 = p.x16 := by unfold leftC; rfl
  have e2 : (leftC m hH c t h0 h1 s p).mg = p.mg := by unfold leftC; rfl
  have e3 : (leftC m hH c t h0 h1 s p).mu = p.mu := by unfold leftC; rfl
  have e4 := h_C m hH c t h0 h1 s p
  have e5 := y_C m hH c t h0 h1 s p
  have e6 := tt_C m hH c t h0 h1 s p
  generalize leftC m hH c t h0 h1 s p = q at *
  exact next t ht hp e1 e2 e3 e4 e5 e6

theorem state (hH : Hyps m) (hN : Names m c) (n : ℕ) (hn : n < cfg0.N) : State m c n (leftAt m hH c n hn) := by
  induction n with
  | zero =>
    have e := leftAt_A m hH c ⟨0, hn⟩ rfl (show ¬(0 % 37 = 36) by decide)
    exact Eq.mpr (congrArg (State m c 0) e) (first hH hN ⟨0, hn⟩ rfl _ _)
  | succ n ih =>
    have hb := before_state hH n hn (ih _)
    by_cases h1 : (n + 1) % 37 = 36
    · have e := leftAt_C m hH c ⟨n + 1, hn⟩ (succ_ne_first hn) h1
      exact Eq.mpr (congrArg (State m c (n + 1)) e) (next_C hH ⟨n + 1, hn⟩ rfl (succ_ne_first hn) h1 _ _ hb)
    · have e := leftAt_B m hH c ⟨n + 1, hn⟩ (succ_ne_first hn) h1
      exact Eq.mpr (congrArg (State m c (n + 1)) e) (next_B hH ⟨n + 1, hn⟩ rfl (succ_ne_first hn) h1 _ hb)

theorem t_rows (I : IVec S16x128 32) (S : FVec Ideal S16x128 .f32) (tt : FVec Ideal S320x16 .f32) (a : Fin 12) (r : Fin 64) :
    k0_pay23 I S tt (ix2 a r) = k0_pay22 I S tt (ix2 ⟨a.val, by omega⟩ ⟨r.val, by omega⟩) := by
  unfold k0_pay23
  generalize k0_pay22 I S tt = v
  pointwise

/-- The row's `t`, in both halves of the lanes. -/
theorem t_last (hN : Names m c) (t : Fin cfg0.N) (ht : t.val = 35 + 1) {p : Left Ideal} (hp : State m c 35 p) {I : IVec S16x128 32} {S : FVec Ideal S16x128 .f32}
    (hI : RowsI I (iblk m c 0 t)) (hS : RowsS S (iblk m c 0 t) (iblk m c 1 t)) (a : Fin 12) (l : Fin 128) (r : Fin 64) (hr : l.val % 64 = r.val) :
    k0_pay22 I S (k0_pay1 (k0_pay91 (hB m c t p) p.tt (iblk m c 11 t))) (ix2 ⟨a.val, by omega⟩ l) = Cert.Spec.t (args m c) a r := by
  have e (F : Fin 18944) : tTerm (args m c) a ⟨((args m c).n a).val * 64 + l.val % 64, by omega⟩ F =
      Cert.Spec.h (args m c) a F * (args m c).Ad ((args m c).n a) F r := by
    unfold tTerm
    have e1 : (⟨(((args m c).n a).val * 64 + l.val % 64) / 64, by omega⟩ : Fin 5) = (args m c).n a := Fin.ext (by dsimp only; omega)
    have e2 : (⟨(((args m c).n a).val * 64 + l.val % 64) % 64, by omega⟩ : Fin 64) = r := Fin.ext (by dsimp only; omega)
    dsimp only
    rw [e1, e2]
  rw [t_pay _ _ _ _ _ _ (I_row hN hI a), S_row hN hS, tt_next t ht hp, part_all, Finset.sum_congr rfl fun F _ => e F]
  rfl

/-- The state the last point starts from. -/
theorem last_state (hH : Hyps m) (hN : Names m c) (t : Fin cfg0.N) (ht : t.val = 35 + 1) : State m c 35 (leftBefore m hH c t) := by
  obtain ⟨_, hn⟩ := t
  obtain rfl : _ = 35 + 1 := ht
  exact before_state hH 35 hn (state hH hN 35 _)

theorem t_end (hH : Hyps m) (hN : Names m c) (t : Fin cfg0.N) (ht : t.val = 35 + 1) (a : Fin 12) (r : Fin 64) :
    (leftAt m hH c t.val t.isLt).t16 (ix2 a r) = Cert.Spec.t (args m c) a r := by
  have hp := last_state hH hN t ht
  rw [leftAt_C m hH c t (by omega) (by omega)]
  generalize leftBefore m hH c t = p at *
  refine t_C m hH c _ _ _ _ _ _ _ fun I S hI hS => ?_
  rw [t_rows]
  exact t_last hN t ht hp hI hS a _ r (Nat.mod_eq_of_lt r.isLt)

theorem out_end (hH : Hyps m) (hN : Names m c) (t : Fin cfg0.N) (ht : t.val = 35 + 1) (a : Fin 12) (d : Fin 3584) :
    (leftAt m hH c t.val t.isLt).out (ix2 a d) = Cert.Spec.out (args m c) a d := by
  have hp := last_state hH hN t ht
  rw [leftAt_C m hH c t (by omega) (by omega)]
  generalize leftBefore m hH c t = p at *
  refine out_C m hH c _ _ _ _ _ _ _ fun I S hI hS => ?_
  rw [out_pay _ _ _ _ _ _ _ (I_row hN hI a)]
  unfold Cert.Spec.out
  refine congrArg₂ (fun x y : EReal => x + y) ?_ ?_
  · exact (y_next t ht hp a d).trans (part_all _)
  · simp only [blk12]
    exact spread_sum _ _ (fun k r => (args m c).Bd k r d) _ fun l r h => t_last hN t ht hp hI hS a l r h

end Cert.KernelIdeal.Val

end
-- ==== Proof.Value.Arrays.lean ====
/-
  The four output arrays after the run.
-/
module

public import proofs.«01_k».proof.Proof.Value.Carry
public import proofs.«01_k».proof.Proof.Body.Run

@[expose] public section

set_option maxRecDepth 16384

noncomputable section

namespace Cert.KernelIdeal.Val

open Cert.KernelIdeal.Gen Cert.KernelIdeal.Body
open Idealize.ShloMosaic Idealize.ShloMosaic.TcCoe Idealize.SL.Sem

local instance : Cert.KernelIdeal.Facts := Cert.KernelIdeal.Gen.facts

/-- The output, as an array. -/
def outArr (P : Cert.Spec.Args) : S12x3584.Idx → EReal := fun j => Cert.Spec.out P (j 0) (j 1)
/-- The hidden activations, as an array. -/
def hArr (P : Cert.Spec.Args) : S12x18944.Idx → EReal := fun j => Cert.Spec.h P (j 0) (j 1)
/-- The adapters' first products, as an array. -/
def sArr (P : Cert.Spec.Args) : S12x128.Idx → EReal := fun j => Cert.Spec.s P (j 0) (j 1)
/-- The adapters' products with the hidden activations, as an array. -/
def tArr (P : Cert.Spec.Args) : S12x64.Idx → EReal := fun j => Cert.Spec.t P (j 0) (j 1)

theorem idx13 : ∀ t : Fin cfg0.N, win0_13.index t = ![0, 0] := by decide +kernel
theorem idx14 : ∀ t : Fin cfg0.N, win0_14.index t = ![0, t.val] := by decide +kernel
theorem idx15 : ∀ t : Fin cfg0.N, win0_15.index t = ![0, 0] := by decide +kernel
theorem idx16 : ∀ t : Fin cfg0.N, win0_16.index t = ![0, 0] := by decide +kernel

theorem flush13 : ∀ t : Fin cfg0.N, (cfg0.win 13).flush t = true → t.val = 35 + 1 := by decide +kernel
theorem flush16 : ∀ t : Fin cfg0.N, (cfg0.win 16).flush t = true → t.val = 35 + 1 := by decide +kernel

variable {m : (ℓ : Loc nD τ sig) → Buf (Elt Ideal) ℓ} {c : Dev nD}

theorem arr_out (hH : Hyps m) (hN : Names m c) :
    (dats m hH 0 c).arrAt 13 cfg0.N = (outArr (args m c) : Buf (Elt Ideal) ((c.tc : Thread nD τ).loc main_v4_0)) := by
  refine (dats m hH 0 c).arrAt_eq_of_covers 13 _ (by decide +kernel) fun t hf y => ?_
  have ht := flush13 t hf
  blk_simp
  rw [after0_13]
  idx_vars y
  refine (out_end hH hN t ht y0 y1).trans ?_
  refine Eq.trans (b := outArr (args m c) (ix2 y0 y1)) rfl (congrArg (outArr (args m c)) ?_)
  have e := idx13 t
  blk_ext [e]

theorem arr_h (hH : Hyps m) (hN : Names m c) :
    (dats m hH 0 c).arrAt 14 cfg0.N = (hArr (args m c) : Buf (Elt Ideal) ((c.tc : Thread nD τ).loc main_v4_1)) := by
  refine (dats m hH 0 c).arrAt_eq_of_covers 14 _ (by decide +kernel) fun t hf y => ?_
  blk_simp
  rw [after0_14]
  idx_vars y
  have hb := t_lt t
  refine ((state hH hN t.val t.isLt).h y0 y1 (by omega)).trans ?_
  refine Eq.trans (b := hArr (args m c) (ix2 y0 ⟨512 * t.val + y1.val, by omega⟩)) rfl (congrArg (hArr (args m c)) ?_)
  have e := idx14 t
  blk_ext [e]

theorem arr_s (hH : Hyps m) (hN : Names m c) :
    (dats m hH 0 c).arrAt 15 cfg0.N = (sArr (args m c) : Buf (Elt Ideal) ((c.tc : Thread nD τ).loc main_v4_2)) := by
  refine (dats m hH 0 c).arrAt_eq_of_covers 15 _ (by decide +kernel) fun t hf y => ?_
  blk_simp
  rw [after0_15]
  idx_vars y
  refine (sAt_apply hH hN y0 y1).trans ?_
  refine Eq.trans (b := sArr (args m c) (ix2 y0 y1)) rfl (congrArg (sArr (args m c)) ?_)
  have e := idx15 t
  blk_ext [e]

theorem arr_t (hH : Hyps m) (hN : Names m c) :
    (dats m hH 0 c).arrAt 16 cfg0.N = (tArr (args m c) : Buf (Elt Ideal) ((c.tc : Thread nD τ).loc main_v4_3)) := by
  refine (dats m hH 0 c).arrAt_eq_of_covers 16 _ (by decide +kernel) fun t hf y => ?_
  have ht := flush16 t hf
  blk_simp
  rw [after0_16]
  idx_vars y
  refine (t_end hH hN t ht y0 y1).trans ?_
  refine Eq.trans (b := tArr (args m c) (ix2 y0 y1)) rfl (congrArg (tArr (args m c)) ?_)
  have e := idx16 t
  blk_ext [e]

end Cert.KernelIdeal.Val

end
-- ==== Proof.Value.Nibble.lean ====
/-
  A quantised word's field, read either way: shifted up and back down, or shifted down, masked and sign-corrected.
-/
module

public import proofs.«01_k».proof.Proof.Value.Spec

@[expose] public section

noncomputable section

namespace Cert.Spec

open Idealize.ShloMosaic
open Cert.KernelIdeal.Val (nib)

/-- The field's masked form, with the sign put right. -/
def fix (v : BitVec 32) : BitVec 32 := if (8 : Int) ≤ v.toInt then v - 16#32 else v

theorem fifteen : ∀ i : Fin 32, (15#32 : BitVec 32)[i.val] = decide (i.val < 4) := by decide

theorem mask (w : BitVec 32) (j : ℕ) (hj : j < 8) : (w.sshiftRight (4 * j)) &&& 15#32 = (w.extractLsb' (4 * j) 4).setWidth 32 := by
  ext i hi
  have e : (15#32 : BitVec 32)[i] = decide (i < 4) := by
    exact fifteen ⟨i, hi⟩
  simp only [BitVec.getElem_and, BitVec.getElem_sshiftRight, BitVec.getElem_setWidth, BitVec.getLsbD_extractLsb', e]
  by_cases h : i < 4
  · have : 4 * j + i < 32 := by omega
    simp [h, this, BitVec.getLsbD_eq_getElem]
  · simp [h]

theorem shifts (w : BitVec 32) (j : ℕ) (hj : j < 8) : (w <<< (28 - 4 * j)).sshiftRight 28 = (w.extractLsb' (4 * j) 4).signExtend 32 := by
  ext i hi
  simp only [BitVec.getElem_sshiftRight, BitVec.getElem_signExtend, BitVec.msb_eq_getLsbD_last, BitVec.getLsbD_extractLsb', BitVec.getElem_extractLsb',
    BitVec.getElem_shiftLeft, BitVec.getLsbD_shiftLeft]
  by_cases h : i < 4
  · have h1 : 28 + i < 32 := by omega
    have h2 : ¬28 + i < 28 - 4 * j := by omega
    have h3 : 28 + i - (28 - 4 * j) = 4 * j + i := by omega
    simp [h, h1, h2, h3, BitVec.getLsbD_eq_getElem (show 4 * j + i < 32 by omega)]
  · have h1 : ¬28 + i < 32 := by omega
    have h3 : 31 - (28 - 4 * j) = 4 * j + 3 := by omega
    have h2 : ¬31 < 28 - 4 * j := by omega
    simp [h, h1, h2, h3]

theorem fix_mask (w : BitVec 32) (j : ℕ) (hj : j < 8) : fix ((w.sshiftRight (4 * j)) &&& 15#32) = (w <<< (28 - 4 * j)).sshiftRight 28 := by
  rw [mask w j hj, shifts w j hj]
  generalize w.extractLsb' (4 * j) 4 = e
  revert e
  decide

end Cert.Spec

end
-- ==== Proof.Value.RefField.lean ====
/-
  The reference's quantised projections, element by element: eight field products, each over every eighth place of the
  contraction, are one sum.
-/
module

public import proofs.«01_k».proof.Proof.Value.Nibble
public import proofs.«01_k».proof.Proof.Gen.ReferenceIdeal.Run

@[expose] public section

set_option maxRecDepth 16384

noncomputable section

namespace Cert.ReferenceIdeal.Val

open Cert.ReferenceIdeal.Value Cert.ReferenceIdeal.Gen
open Idealize.ShloMosaic Idealize.ShloMosaic.TcCoe Idealize.SL.Sem
open Cert.KernelIdeal.Val (nib)

local instance : Cert.ReferenceIdeal.Facts := Cert.ReferenceIdeal.Gen.facts

set_option maxHeartbeats 1000000

theorem shift_up : ∀ j : Fin 8, IntOp.subi 28#32 (IntOp.muli 4#32 (BitVec.ofNat 32 j.val)) = BitVec.ofNat 32 (28 - 4 * j.val) := by decide

theorem small : ∀ j : Fin 8, (BitVec.ofNat 32 (28 - 4 * j.val)).toNat = 28 - 4 * j.val ∧ (BitVec.ofNat 32 (4 * j.val)).toNat = 4 * j.val := by decide

/-- The reference's reading of a field is the kernel's. -/
theorem nib_host (w k : BitVec 32) (j : ℕ) (hj : j < 8) (hk : k = BitVec.ofNat 32 (4 * j)) :
    FloatOps.sitofp (F := Ideal) FTy.bf16 (Scalar.select
      (IntOp.cmpi CmpIPredicate.sge (IntOp.andi (IntOp.shrsi ArithUnit.host w k) 15#32) 8#32)
      (IntOp.subi (IntOp.andi (IntOp.shrsi ArithUnit.host w k) 15#32) 16#32)
      (IntOp.andi (IntOp.shrsi ArithUnit.host w k) 15#32)) = nib w j := by
  subst hk
  unfold nib
  rw [shift_up ⟨j, hj⟩]
  congr 1
  have e1 : IntOp.shrsi ArithUnit.host w (BitVec.ofNat 32 (4 * j)) = w.sshiftRight (4 * j) := by
    unfold IntOp.shrsi
    simp [(small ⟨j, hj⟩).2]
    try omega
  have e2 : IntOp.shrsi ArithUnit.vector (IntOp.shli ArithUnit.vector w (BitVec.ofNat 32 (28 - 4 * j))) 28#32 = (w <<< (28 - 4 * j)).sshiftRight 28 := by
    unfold IntOp.shrsi IntOp.shli
    simp [(small ⟨j, hj⟩).1]
    rw [if_pos (by omega)]
  rw [e1, e2, ← Cert.Spec.fix_mask w j hj]
  generalize hv : IntOp.andi (w.sshiftRight (4 * j)) 15#32 = v
  have hv' : w.sshiftRight (4 * j) &&& 15#32 = v := hv
  rw [hv']
  unfold Cert.Spec.fix
  by_cases h : (8 : Int) ≤ v.toInt
  · rw [if_pos h]
    have : IntOp.cmpi CmpIPredicate.sge v 8#32 = 1#1 := by
      simp [IntOp.cmpi, BitVec.sle, h]
    rw [this]
    rfl
  · rw [if_neg h]
    have : IntOp.cmpi CmpIPredicate.sge v 8#32 = 0#1 := by
      simp [IntOp.cmpi, BitVec.sle, h]
    rw [this]
    rfl

/-- Eight sums over every eighth place are one sum. -/
theorem sum8 {n L : ℕ} (hL : L = n * 8) (T : Fin L → EReal) {F : Fin 8 → EReal}
    (h : ∀ j : Fin 8, F j = ∑ q : Fin n, T ⟨8 * q.val + j.val, by omega⟩) :
    F 0 + F 1 + F 2 + F 3 + F 4 + F 5 + F 6 + F 7 = ∑ d, T d := by
  rw [← Fin.sum_univ_eight, Finset.sum_congr rfl fun j _ => h j, Finset.sum_comm]
  exact Fin.sum_mul_add_congr (fun q j hl => congrArg T (Fin.ext (by dsimp only; omega))) hL

/-- The masked field of the gate-and-up words. -/
abbrev masked (W : IVec S448x37888 32) (k : BitVec 32) : IVec S448x37888 32 :=
  andi (Host.shrsi W (broadcastInDim S448x37888 ![] bcast_S_S448x37888 (constantI S_ 32 k))) (broadcastInDim S448x37888 ![] bcast_S_S448x37888 (constantI S_ 32 15#32))

/-- The field's words, dequantised. -/
abbrev deq (W : IVec S448x37888 32) (S : FVec Ideal S28x37888 .bf16) (k : BitVec 32) : FVec Ideal S448x37888 .bf16 :=
  shapeCast _ (mulf (shapeCast _ (sitofp .bf16 (select (cmpi .sge (masked W k) (broadcastInDim S448x37888 ![] bcast_S_S448x37888 (constantI S_ 32 8#32))) (subi (masked W k) (broadcastInDim S448x37888 ![] bcast_S_S448x37888 (constantI S_ 32 16#32))) (masked W k))) shapeCasts_S448x37888_S28x16x37888) (broadcastInDim S28x16x37888 ![0, 1, 2] bcast_S28x1x37888_S28x16x37888_0_1_2 (broadcastInDim S28x1x37888 ![0, 2] bcast_S28x37888_S28x1x37888_0_2 S))) shapeCasts_S28x16x37888_S448x37888

theorem deq_apply (W : IVec S448x37888 32) (S : FVec Ideal S28x37888 .bf16) (k : BitVec 32) (j : ℕ) (hj : j < 8)
    (hk : k = BitVec.ofNat 32 (4 * j)) (q : Fin 448) (f : Fin 37888) :
    deq W S k (ix2 q f) = nib (W (ix2 q f)) j * S (ix2 ⟨q.val / 16, by omega⟩ f) := by
  pointwise
  rw [nib_host _ _ j hj hk]

/-- A field's product. -/
theorem field_apply (X : FVec Ideal S12x3584 .bf16) (W : IVec S448x37888 32) (S : FVec Ideal S28x37888 .bf16) (k : BitVec 32) (j : ℕ) (hj : j < 8)
    (hk : k = BitVec.ofNat 32 (4 * j)) (hs : S12x3584.SlicesBy (![0, j] : Fin 2 → Nat) ![1, 8] S12x448) (a : Fin 12) (f : Fin 37888) :
    Host.dotGeneral dot_S12x448_S448x37888_S12x37888_1_0_0_1_n_n none (Host.slice S12x448 ![0, j] ![1, 8] X hs) (deq W S k) (ix2 a f) =
      ∑ q : Fin 448, X (ix2 a ⟨8 * q.val + j, by omega⟩) * (nib (W (ix2 q f)) j * S (ix2 ⟨q.val / 16, by omega⟩ f)) := by
  refine Eq.trans (b := ∑ q : Fin 448, X (ix2 a ⟨8 * q.val + j, by omega⟩) * deq W S k (ix2 q f)) ?_ ?_
  · generalize deq W S k = Y
    pointwise
    refine Finset.sum_congr rfl fun q _ => congrArg (fun i => X (ix2 a i) * Y (ix2 q f)) (Fin.ext (by dsimp only; omega))
  · refine Finset.sum_congr rfl fun q _ => ?_
    rw [deq_apply W S k j hj hk]

/-- The masked field of the down words. -/
abbrev maskedD (W : IVec S2368x3584 32) (k : BitVec 32) : IVec S2368x3584 32 :=
  andi (Host.shrsi W (broadcastInDim S2368x3584 ![] bcast_S_S2368x3584 (constantI S_ 32 k))) (broadcastInDim S2368x3584 ![] bcast_S_S2368x3584 (constantI S_ 32 15#32))

/-- The field's words, dequantised. -/
abbrev deqD (W : IVec S2368x3584 32) (S : FVec Ideal S148x3584 .bf16) (k : BitVec 32) : FVec Ideal S2368x3584 .bf16 :=
  shapeCast _ (mulf (shapeCast _ (sitofp .bf16 (select (cmpi .sge (maskedD W k) (broadcastInDim S2368x3584 ![] bcast_S_S2368x3584 (constantI S_ 32 8#32))) (subi (maskedD W k) (broadcastInDim S2368x3584 ![] bcast_S_S2368x3584 (constantI S_ 32 16#32))) (maskedD W k))) shapeCasts_S2368x3584_S148x16x3584) (broadcastInDim S148x16x3584 ![0, 1, 2] bcast_S148x1x3584_S148x16x3584_0_1_2 (broadcastInDim S148x1x3584 ![0, 2] bcast_S148x3584_S148x1x3584_0_2 S))) shapeCasts_S148x16x3584_S2368x3584

theorem deqD_apply (W : IVec S2368x3584 32) (S : FVec Ideal S148x3584 .bf16) (k : BitVec 32) (j : ℕ) (hj : j < 8)
    (hk : k = BitVec.ofNat 32 (4 * j)) (q : Fin 2368) (f : Fin 3584) :
    deqD W S k (ix2 q f) = nib (W (ix2 q f)) j * S (ix2 ⟨q.val / 16, by omega⟩ f) := by
  pointwise
  rw [nib_host _ _ j hj hk]

/-- A field's product. -/
theorem fieldD_apply (X : FVec Ideal S12x18944 .bf16) (W : IVec S2368x3584 32) (S : FVec Ideal S148x3584 .bf16) (k : BitVec 32) (j : ℕ) (hj : j < 8)
    (hk : k = BitVec.ofNat 32 (4 * j)) (hs : S12x18944.SlicesBy (![0, j] : Fin 2 → Nat) ![1, 8] S12x2368) (a : Fin 12) (f : Fin 3584) :
    Host.dotGeneral dot_S12x2368_S2368x3584_S12x3584_1_0_0_1_n_n none (Host.slice S12x2368 ![0, j] ![1, 8] X hs) (deqD W S k) (ix2 a f) =
      ∑ q : Fin 2368, X (ix2 a ⟨8 * q.val + j, by omega⟩) * (nib (W (ix2 q f)) j * S (ix2 ⟨q.val / 16, by omega⟩ f)) := by
  refine Eq.trans (b := ∑ q : Fin 2368, X (ix2 a ⟨8 * q.val + j, by omega⟩) * deqD W S k (ix2 q f)) ?_ ?_
  · generalize deqD W S k = Y
    pointwise
    refine Finset.sum_congr rfl fun q _ => congrArg (fun i => X (ix2 a i) * Y (ix2 q f)) (Fin.ext (by dsimp only; omega))
  · refine Finset.sum_congr rfl fun q _ => ?_
    rw [deqD_apply W S k j hj hk]

end Cert.ReferenceIdeal.Val

end
-- ==== Proof.Value.RefArgs.lean ====
/-
  The reference's small terms, element by element: its activations, the one-hot table of adapters, the gathered scalings
  and the adapter factors.
-/
module

public import proofs.«01_k».proof.Proof.Value.RefField

@[expose] public section

set_option maxRecDepth 16384

noncomputable section

namespace Cert.ReferenceIdeal.Val

open Cert.ReferenceIdeal.Value Cert.ReferenceIdeal.Gen
open Idealize.ShloMosaic Idealize.ShloMosaic.TcCoe Idealize.SL.Sem
open Cert.KernelIdeal.Val (nib)

local instance : Cert.ReferenceIdeal.Facts := Cert.ReferenceIdeal.Gen.facts

set_option maxHeartbeats 1000000

variable (V0 : Valuation τ sig (Elt Ideal))

/-- The reference's arguments, as plain functions. -/
def args : Cert.Spec.Args where
  x a d := V0 (Proc.devRef .tc main_arg0) (ix3 a 0 d)
  n a := ⟨(V0 (Proc.devRef .tc main_arg1) (ix1 a) : BitVec 32).toNat % 5, Nat.mod_lt _ (by decide)⟩
  W k j := V0 (Proc.devRef .tc main_arg2) (ix2 k j)
  S k j := V0 (Proc.devRef .tc main_arg3) (ix2 k j)
  Wd k d := V0 (Proc.devRef .tc main_arg4) (ix2 k d)
  Sd k d := V0 (Proc.devRef .tc main_arg5) (ix2 k d)
  A n d l := V0 (Proc.devRef .tc main_arg6) (ix3 n d l)
  B n e r f := V0 (Proc.devRef .tc main_arg7) (ix4 n e r f)
  Ad n f r := V0 (Proc.devRef .tc main_arg8) (ix3 n f r)
  Bd n r d := V0 (Proc.devRef .tc main_arg9) (ix3 n r d)
  sc n := V0 (Proc.devRef .tc main_arg10) (ix1 n)

/-- Every row names an adapter. -/
def Names : Prop := ∀ a : Fin 12, (V0 (Proc.devRef .tc main_arg1) (ix1 a) : BitVec 32).toNat < 5

variable {V0}

theorem word_eq (h : Names V0) (a : Fin 12) : (V0 (Proc.devRef .tc main_arg1) (ix1 a) : BitVec 32) = BitVec.ofNat 32 ((args V0).n a).val := by
  refine BitVec.eq_of_toNat_eq ?_
  have e : ((args V0).n a).val = (V0 (Proc.devRef .tc main_arg1) (ix1 a) : BitVec 32).toNat := Nat.mod_eq_of_lt (h a)
  rw [e]
  simp

theorem v0_apply (a : Fin 12) (d : Fin 3584) : res_main_v0 V0 (ix2 a d) = (args V0).x a d := by
  pointwise [res_main_v0]
  rfl

theorem onehot_word : ∀ n k : Fin 5, IntOp.cmpi CmpIPredicate.eq (BitVec.ofNat 32 n.val) (BitVec.ofNat 32 k.val) = if n = k then 1#1 else 0#1 := by decide

theorem v1_apply (h : Names V0) (a : Fin 12) (k : Fin 5) : (res_main_v1 V0 : S12x5.Idx → EReal) (ix2 a k) = if (args V0).n a = k then (1 : EReal) else (0 : EReal) := by
  pointwise [res_main_v1]
  rw [word_eq h a, onehot_word]
  split_ifs
  · show (((1#1).toNat : ℝ) : EReal) = 1
    simp
  · show (((0#1).toNat : ℝ) : EReal) = 0
    simp

theorem v2_apply (h : Names V0) (a : Fin 12) (k : Fin 5) : (res_main_v2 V0 : S12x5.Idx → EReal) (ix2 a k) = if (args V0).n a = k then (1 : EReal) else (0 : EReal) := by
  refine Eq.trans ?_ (v1_apply h a k)
  pointwise [res_main_v2]

/-- A gather from five elements at an index: the element at the start word, read signed and clamped. -/
theorem gather_apply (x : S5.Idx → EReal) (idx : IVec S12x1 32) (a : Fin 12) :
    Host.gather gather_S5_S12x1_S12_n_0_n_n_0_1_1 x idx (ix1 a) = x (ix1 ⟨min (idx (ix2 a 0)).toInt.toNat 4, by omega⟩) := by
  unfold Host.gather
  congr 1
  funext b
  obtain rfl : b = 0 := Subsingleton.elim _ _
  refine Fin.ext ?_
  show (gather_S5_S12x1_S12_n_0_n_n_0_1_1).start (ix1 a) idx 0 + (gather_S5_S12x1_S12_n_0_n_n_0_1_1).batchCoord (ix1 a) 0 + (gather_S5_S12x1_S12_n_0_n_n_0_1_1).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S5_S12x1_S12_n_0_n_n_0_1_1).startIndexMap from List.mem_singleton.mpr rfl)]
  have hsi : (gather_S5_S12x1_S12_n_0_n_n_0_1_1).siIdx (ix1 a) ⟨List.idxOf (0 : Fin 1) (gather_S5_S12x1_S12_n_0_n_n_0_1_1).startIndexMap,
      List.idxOf_lt_length_iff.2 (List.mem_singleton.mpr rfl)⟩ = ix2 a 0 := by
    funext b; refine Fin.ext ?_
    match b with
    | ⟨0, _⟩ => rfl
    | ⟨1, _⟩ => rfl
  rw [hsi]
  rfl

theorem wrap_word : ∀ n : Fin 5, min (Scalar.select (IntOp.cmpi CmpIPredicate.slt (BitVec.ofNat 32 n.val) 0#32) (IntOp.addi (BitVec.ofNat 32 n.val) 5#32)
    (BitVec.ofNat 32 n.val)).toInt.toNat 4 = n.val := by decide

theorem v9_apply (h : Names V0) (a : Fin 12) : res_main_v9 V0 (ix1 a) = (args V0).sc ((args V0).n a) := by
  unfold res_main_v9
  refine (gather_apply _ _ a).trans ?_
  refine congrArg (fun k => V0 (Proc.devRef .tc main_arg10) (ix1 k)) (Fin.ext ?_)
  refine Eq.trans ?_ (wrap_word ((args V0).n a))
  rw [← word_eq h a]
  dsimp only
  refine congrArg (fun w : BitVec 32 => min w.toInt.toNat 4) ?_
  pointwise

theorem pick_sum (n : Fin 5) (Y : Fin 5 → EReal) : (∑ k : Fin 5, (if n = k then (1 : EReal) else 0) * Y k) = Y n := by
  simp [ite_mul]

variable (V0) in
/-- The reference's `s`. -/
abbrev sRef : FVec Ideal S12x128 .bf16 :=
  truncf .bf16 (mulf (Host.dotGeneral (φ₁ := .f32) (φ₂ := .f32) dot_S12x5_S12x5x128_S12x128_1_1_n_2_0_0 (some .fp32) (res_main_v1 V0) (Host.dotGeneral (φ₁ := .bf16) (φ₂ := .bf16) dot_S12x3584_S5x3584x128_S12x5x128_1_1_0_02_n_n none (res_main_v0 V0) (V0 (Proc.devRef .tc main_arg6)))) (broadcastInDim S12x128 ![0, 1] bcast_S12x1_S12x128_0_1 (broadcastInDim S12x1 ![0] bcast_S12_S12x1_0 (res_main_v9 V0)))) bitsLt_bf16_f32

theorem s_apply (h : Names V0) (a : Fin 12) (l : Fin 128) : sRef V0 (ix2 a l) = Cert.Spec.s (args V0) a l := by
  pointwise
  simp only [v1_apply h, v9_apply h, v0_apply]
  exact congrArg (· * _) (pick_sum _ _)

variable (V0) in
/-- The reference's `t`, from the hidden activations `H`. -/
abbrev tRef (H : FVec Ideal S12x18944 .bf16) : FVec Ideal S12x64 .bf16 :=
  truncf .bf16 (mulf (Host.dotGeneral (φ₁ := .f32) (φ₂ := .f32) dot_S12x5_S12x5x64_S12x64_1_1_n_2_0_0 (some .fp32) (res_main_v1 V0) (Host.dotGeneral (φ₁ := .bf16) (φ₂ := .bf16) dot_S12x18944_S5x18944x64_S12x5x64_1_1_0_02_n_n none H (V0 (Proc.devRef .tc main_arg8)))) (broadcastInDim S12x64 ![0, 1] bcast_S12x1_S12x64_0_1 (broadcastInDim S12x1 ![0] bcast_S12_S12x1_0 (res_main_v9 V0)))) bitsLt_bf16_f32

theorem t_apply (h : Names V0) (H : FVec Ideal S12x18944 .bf16) (hH : ∀ a f, H (ix2 a f) = Cert.Spec.h (args V0) a f) (a : Fin 12) (r : Fin 64) :
    tRef V0 H (ix2 a r) = Cert.Spec.t (args V0) a r := by
  pointwise
  simp only [v1_apply h, v9_apply h, hH]
  exact congrArg (· * _) (pick_sum _ _)

variable (V0) in
/-- The adapters' share of the gate and up projections. -/
abbrev loraRef (v : FVec Ideal S12x128 .bf16) : FVec Ideal S12x2x18944 .f32 :=
  transpose S12x2x18944 [2, 0, 1] (Host.dotGeneral (φ₁ := .bf16) (φ₂ := .bf16) dot_S5x2x64x18944_S12x5x2x64_S2x18944x12_02_13_3_0_1_2 none (V0 (Proc.devRef .tc main_arg7)) (mulf (broadcastInDim S12x5x2x64 ![0, 1, 2, 3] bcast_S12x5x1x1_S12x5x2x64_0_1_2_3 (broadcastInDim S12x5x1x1 ![0, 1] bcast_S12x5_S12x5x1x1_0_1 (res_main_v2 V0))) (broadcastInDim S12x5x2x64 ![0, 1, 2, 3] bcast_S12x1x2x64_S12x5x2x64_0_1_2_3 (shapeCast _ v shapeCasts_S12x128_S12x1x2x64)))) transposes_S2x18944x12_S12x2x18944_2_0_1

theorem lora_apply (h : Names V0) (v : FVec Ideal S12x128 .bf16) (a : Fin 12) (e : Fin 2) (f : Fin 18944) :
    loraRef V0 v (ix3 a e f) = ∑ r : Fin 64, v (ix2 a ⟨64 * e.val + r.val, by omega⟩) * (args V0).B ((args V0).n a) e r f := by
  pointwise
  simp only [v2_apply h]
  rw [Finset.sum_comm]
  refine Finset.sum_congr rfl fun r _ => ?_
  refine Eq.trans (Finset.sum_congr rfl fun k _ => ?_) (pick_sum ((args V0).n a) fun k => v (ix2 a ⟨64 * e.val + r.val, by omega⟩) * (args V0).B k e r f)
  have e1 : (⟨e.val * 64 + r.val, by omega⟩ : Fin 128) = ⟨64 * e.val + r.val, by omega⟩ := Fin.ext (by dsimp only; omega)
  rw [e1, mul_left_comm]
  exact congrArg (fun y : EReal => (if (args V0).n a = k then (1 : EReal) else 0) * y) (@mul_comm EReal _ _ _)

variable (V0) in
/-- The adapters' share of the output. -/
abbrev loraDRef (v : FVec Ideal S12x64 .bf16) : FVec Ideal S12x3584 .f32 :=
  Host.dotGeneral (φ₁ := .bf16) (φ₂ := .bf16) dot_S12x5x64_S5x64x3584_S12x3584_12_01_0_2_n_n none (mulf (broadcastInDim S12x5x64 ![0, 1, 2] bcast_S12x5x1_S12x5x64_0_1_2 (broadcastInDim S12x5x1 ![0, 1] bcast_S12x5_S12x5x1_0_1 (res_main_v2 V0))) (broadcastInDim S12x5x64 ![0, 1, 2] bcast_S12x1x64_S12x5x64_0_1_2 (broadcastInDim S12x1x64 ![0, 2] bcast_S12x64_S12x1x64_0_2 v))) (V0 (Proc.devRef .tc main_arg9))

theorem loraD_apply (h : Names V0) (v : FVec Ideal S12x64 .bf16) (a : Fin 12) (d : Fin 3584) :
    loraDRef V0 v (ix2 a d) = ∑ r : Fin 64, v (ix2 a r) * (args V0).Bd ((args V0).n a) r d := by
  pointwise
  simp only [v2_apply h]
  rw [Finset.sum_comm]
  refine Finset.sum_congr rfl fun r _ => ?_
  refine Eq.trans (Finset.sum_congr rfl fun k _ => ?_) (pick_sum ((args V0).n a) fun k => v (ix2 a r) * (args V0).Bd k r d)
  rw [mul_assoc]
  rfl

end Cert.ReferenceIdeal.Val

end
-- ==== Proof.Value.RefValue.lean ====
/-
  The reference's four results, element by element, are the specification's.
-/
module

public import proofs.«01_k».proof.Proof.Value.RefArgs

@[expose] public section

set_option maxRecDepth 16384

noncomputable section

namespace Cert.ReferenceIdeal.Val

open Cert.ReferenceIdeal.Value Cert.ReferenceIdeal.Gen
open Idealize.ShloMosaic Idealize.ShloMosaic.TcCoe Idealize.SL.Sem
open Cert.KernelIdeal.Val (nib)

local instance : Cert.ReferenceIdeal.Facts := Cert.ReferenceIdeal.Gen.facts

set_option maxHeartbeats 1000000

/-- A sum of two arrays at an index. -/
theorem addf_at {s : Shape} {φ : FTy} (x y : FVec Ideal s φ) (i : s.Idx) : addf x y i = (x i : EReal) + (y i : EReal) := rfl

variable {V0 : Valuation τ sig (Elt Ideal)}

variable (V0) in
/-- The eight products of the gate-and-up projection, added. -/
abbrev projRef : FVec Ideal S12x37888 .f32 :=
  addf (addf (res_main_v116 V0) (Host.dotGeneral (φ₁ := .bf16) (φ₂ := .bf16) dot_S12x448_S448x37888_S12x37888_1_0_0_1_n_n none (Host.slice S12x448 ![0, 6] ![1, 8] (res_main_v0 V0) slicesBy_S12x3584_S12x448_0s1_6s8) (deq (V0 (Proc.devRef .tc main_arg2)) (V0 (Proc.devRef .tc main_arg3)) 24#32)))
      (Host.dotGeneral (φ₁ := .bf16) (φ₂ := .bf16) dot_S12x448_S448x37888_S12x37888_1_0_0_1_n_n none (Host.slice S12x448 ![0, 7] ![1, 8] (res_main_v0 V0) slicesBy_S12x3584_S12x448_0s1_7s8) (deq (V0 (Proc.devRef .tc main_arg2)) (V0 (Proc.devRef .tc main_arg3)) 28#32))

theorem proj_apply (a : Fin 12) (F : Fin 37888) : projRef V0 (ix2 a F) = ∑ d : Fin 3584, Cert.Spec.projTerm (args V0) a F d := by
  have hf (j : ℕ) (hj : j < 8) (k : BitVec 32) (hk : k = BitVec.ofNat 32 (4 * j)) (hs : S12x3584.SlicesBy (![0, j] : Fin 2 → Nat) ![1, 8] S12x448) :
      Host.dotGeneral (φ₁ := .bf16) (φ₂ := .bf16) dot_S12x448_S448x37888_S12x37888_1_0_0_1_n_n none (Host.slice S12x448 ![0, j] ![1, 8] (res_main_v0 V0) hs)
        (deq (V0 (Proc.devRef .tc main_arg2)) (V0 (Proc.devRef .tc main_arg3)) k) (ix2 a F) =
      ∑ q : Fin 448, Cert.Spec.projTerm (args V0) a F ⟨8 * q.val + j, by omega⟩ := by
    rw [field_apply _ _ _ k j hj hk hs]
    refine Finset.sum_congr rfl fun q _ => ?_
    rw [v0_apply]
    unfold Cert.Spec.projTerm
    have e1 : (⟨(8 * q.val + j) / 8, by omega⟩ : Fin 448) = q := Fin.ext (by dsimp only; omega)
    have e2 : (⟨(8 * q.val + j) / 128, by omega⟩ : Fin 28) = ⟨q.val / 16, by omega⟩ := Fin.ext (by dsimp only; omega)
    have e3 : (8 * q.val + j) % 8 = j := by omega
    dsimp only
    rw [e1, e2, e3]
    rfl
  refine Eq.trans ?_ (sum8 (n := 448) (F := fun j => ∑ q : Fin 448, Cert.Spec.projTerm (args V0) a F ⟨8 * q.val + j.val, by omega⟩) rfl
    (Cert.Spec.projTerm (args V0) a F) fun j => rfl)
  unfold projRef res_main_v116
  simp only [addf_at]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact hf 0 (by decide) 0#32 rfl _
  · exact hf 1 (by decide) 4#32 rfl _
  · exact hf 2 (by decide) 8#32 rfl _
  · exact hf 3 (by decide) 12#32 rfl _
  · exact hf 4 (by decide) 16#32 rfl _
  · exact hf 5 (by decide) 20#32 rfl _
  · exact hf 6 (by decide) 24#32 rfl _
  · exact hf 7 (by decide) 28#32 rfl _

/-- The projection's two halves under an axis of their own. -/
theorem halves (v : FVec Ideal S12x37888 .f32) (a : Fin 12) (e : Fin 2) (f : Fin 18944) :
    shapeCast S12x2x18944 v shapeCasts_S12x37888_S12x2x18944 (ix3 a e f) = v (ix2 a ⟨18944 * e.val + f.val, by omega⟩) := by
  refine Eq.trans (b := v (ix2 a ⟨e.val * 18944 + f.val, by omega⟩)) ?_ ?_
  · pointwise
  · exact congrArg (fun i => v (ix2 a i)) (Fin.ext (by dsimp only; omega))

/-- Both projections with the adapters' share. -/
theorem v167_apply (h : Names V0) (a : Fin 12) (e : Fin 2) (f : Fin 18944) :
    (res_main_v167 V0 : S12x2x18944.Idx → EReal) (ix3 a e f) = (∑ r : Fin 64, Cert.Spec.s (args V0) a ⟨64 * e.val + r.val, by omega⟩ * (args V0).B ((args V0).n a) e r f) +
      ∑ d : Fin 3584, Cert.Spec.projTerm (args V0) a ⟨18944 * e.val + f.val, by omega⟩ d := by
  have hl := lora_apply h (sRef V0) a e f
  simp only [s_apply h] at hl
  refine Eq.trans ?_ (@add_comm EReal _ _ _)
  unfold res_main_v167
  exact (addf_at _ _ _).trans (congrArg₂ (fun x y : EReal => x + y) ((halves (projRef V0) a e f).trans (proj_apply a _)) hl)

theorem v169_apply (h : Names V0) (a : Fin 12) (f : Fin 18944) : (res_main_v169 V0 : S12x18944.Idx → EReal) (ix2 a f) = Cert.Spec.gate (args V0) a f := by
  refine Eq.trans (b := (res_main_v167 V0 : S12x2x18944.Idx → EReal) (ix3 a 0 f)) ?_ ?_
  · pointwise [res_main_v169]
  · rw [v167_apply h]
    unfold Cert.Spec.gate
    refine congrArg₂ (· + ·) (Finset.sum_congr rfl fun r _ => ?_) (Finset.sum_congr rfl fun d _ => ?_)
    · exact congrArg (fun l => Cert.Spec.s (args V0) a l * _) (Fin.ext (by simp))
    · exact congrArg (fun l => Cert.Spec.projTerm (args V0) a l d) (Fin.ext (by simp))

theorem h_apply (h : Names V0) (a : Fin 12) (f : Fin 18944) : (res_main_v180 V0 : S12x18944.Idx → EReal) (ix2 a f) = Cert.Spec.h (args V0) a f := by
  have hu : (res_main_v167 V0 : S12x2x18944.Idx → EReal) (ix3 a 1 f) = Cert.Spec.up (args V0) a f := v167_apply h a 1 f
  have hg := v169_apply h a f
  pointwise [res_main_v180]
  rw [hg, hu]
  rfl

theorem out_apply (h : Names V0) (a : Fin 12) (d : Fin 3584) :
    truncf .bf16 (addf (addf (addf (res_main_v287 V0) (Host.dotGeneral (φ₁ := .bf16) (φ₂ := .bf16) dot_S12x2368_S2368x3584_S12x3584_1_0_0_1_n_n none (Host.slice S12x2368 ![0, 6] ![1, 8] (res_main_v180 V0) slicesBy_S12x18944_S12x2368_0s1_6s8) (deqD (V0 (Proc.devRef .tc main_arg4)) (V0 (Proc.devRef .tc main_arg5)) 24#32)))
      (Host.dotGeneral (φ₁ := .bf16) (φ₂ := .bf16) dot_S12x2368_S2368x3584_S12x3584_1_0_0_1_n_n none (Host.slice S12x2368 ![0, 7] ![1, 8] (res_main_v180 V0) slicesBy_S12x18944_S12x2368_0s1_7s8) (deqD (V0 (Proc.devRef .tc main_arg4)) (V0 (Proc.devRef .tc main_arg5)) 28#32)))
      (loraDRef V0 (tRef V0 (res_main_v180 V0))) : FVec Ideal S12x3584 .f32) bitsLt_bf16_f32 (ix2 a d) = Cert.Spec.out (args V0) a d := by
  have hf (j : ℕ) (hj : j < 8) (k : BitVec 32) (hk : k = BitVec.ofNat 32 (4 * j)) (hs : S12x18944.SlicesBy (![0, j] : Fin 2 → Nat) ![1, 8] S12x2368) :
      Host.dotGeneral (φ₁ := .bf16) (φ₂ := .bf16) dot_S12x2368_S2368x3584_S12x3584_1_0_0_1_n_n none (Host.slice S12x2368 ![0, j] ![1, 8] (res_main_v180 V0) hs)
        (deqD (V0 (Proc.devRef .tc main_arg4)) (V0 (Proc.devRef .tc main_arg5)) k) (ix2 a d) =
      ∑ q : Fin 2368, Cert.Spec.downTerm (args V0) a d ⟨8 * q.val + j, by omega⟩ := by
    rw [fieldD_apply _ _ _ k j hj hk hs]
    refine Finset.sum_congr rfl fun q _ => ?_
    rw [h_apply h]
    unfold Cert.Spec.downTerm
    have e1 : (⟨(8 * q.val + j) / 8, by omega⟩ : Fin 2368) = q := Fin.ext (by dsimp only; omega)
    have e2 : (⟨(8 * q.val + j) / 128, by omega⟩ : Fin 148) = ⟨q.val / 16, by omega⟩ := Fin.ext (by dsimp only; omega)
    have e3 : (8 * q.val + j) % 8 = j := by omega
    dsimp only
    rw [e1, e2, e3]
    rfl
  have hl := loraD_apply h (tRef V0 (res_main_v180 V0)) a d
  simp only [t_apply h _ (h_apply h)] at hl
  refine Eq.trans (addf_at _ _ _) (congrArg₂ (· + ·) ?_ hl)
  refine Eq.trans ?_ (sum8 (n := 2368) (F := fun j => ∑ q : Fin 2368, Cert.Spec.downTerm (args V0) a d ⟨8 * q.val + j.val, by omega⟩) rfl
    (Cert.Spec.downTerm (args V0) a d) fun j => rfl)
  unfold res_main_v287
  simp only [addf_at]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact hf 0 (by decide) 0#32 rfl _
  · exact hf 1 (by decide) 4#32 rfl _
  · exact hf 2 (by decide) 8#32 rfl _
  · exact hf 3 (by decide) 12#32 rfl _
  · exact hf 4 (by decide) 16#32 rfl _
  · exact hf 5 (by decide) 20#32 rfl _
  · exact hf 6 (by decide) 24#32 rfl _
  · exact hf 7 (by decide) 28#32 rfl _

end Cert.ReferenceIdeal.Val

end
-- ==== Proof.Algebraic.lean ====
/-
  The kernel's four results are the reference's, as real expressions: both are the specification's (Proof/Value/Spec) at the
  arguments they share.
-/
module

public import proofs.«01_k».proof.Defs
public import proofs.«01_k».proof.Proof.Gen.Pre_adapters_exist
public import proofs.«01_k».proof.Proof.Words
public import proofs.«01_k».proof.Proof.Adapters
public import proofs.«01_k».proof.Proof.Value.Arrays
public import proofs.«01_k».proof.Proof.Value.RefValue
public import proofs.«01_k».proof.Proof.Gen.ReferenceIdeal.Run

@[expose] public section

set_option maxRecDepth 16384
set_option maxHeartbeats 4000000

noncomputable section

namespace Cert.Proof.Results

open Idealize.ShloMosaic Idealize.ShloMosaic.TcCoe Idealize.SL.Sem Idealize.ShloMosaic.StableHlo

local instance : Cert.KernelIdeal.Facts := Cert.KernelIdeal.Gen.facts
local instance : Cert.ReferenceIdeal.Facts := Cert.ReferenceIdeal.Gen.facts
local instance : Cert.Pre_adapters_exist.Facts := Cert.Pre_adapters_exist.Gen.facts

open Cert.KernelIdeal.Val (outArr hArr sArr tArr)

section Kernel

open Cert.KernelIdeal Cert.KernelIdeal.Gen Cert.KernelIdeal.Body

/-- The kernel ends with the specification's arrays in its four results. -/
theorem kernel_results (m : (ℓ : Loc nD τ sig) → Buf (Elt Ideal) ℓ) (g : Dev nD → PrngReg) (hw : ∀ c, Val.Names m c) (hH : Hyps m) :
    θ_run (defs (F := Ideal)) (onTc (τ := τ) (main (F := Ideal))) ⟨m, fun _ => 0, g⟩ (fun r => ∀ c : Dev nD,
      r.2.mem ((c.tc : Thread nD τ).loc main_v4_0) = outArr (Val.args m c)
      ∧ r.2.mem ((c.tc : Thread nD τ).loc main_v4_1) = hArr (Val.args m c)
      ∧ r.2.mem ((c.tc : Thread nD τ).loc main_v4_2) = sArr (Val.args m c)
      ∧ r.2.mem ((c.tc : Thread nD τ).loc main_v4_3) = tArr (Val.args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 13).trans (Val.arr_out hH (hw c)), ((h c).1 14).trans (Val.arr_h hH (hw c)),
    ((h c).1 15).trans (Val.arr_s hH (hw c)), ((h c).1 16).trans (Val.arr_t hH (hw c)),
    ((h c).2 main_arg0 (Pipeline.mem_restRefs_of main_arg0 (by decide) (by decide))).trans (V_main_arg0 m c),
    ((h c).1 0).trans (((dats m hH 0 c).arrAt_in 0 rfl _).trans ((A_eq m hH c 0).trans (V_main_arg1 m c))),
    ((h c).1 4).trans (((dats m hH 0 c).arrAt_in 4 rfl _).trans ((A_eq m hH c 4).trans (V_main_arg2 m c))),
    ((h c).1 6).trans (((dats m hH 0 c).arrAt_in 6 rfl _).trans ((A_eq m hH c 6).trans (V_main_arg3 m c))),
    ((h c).1 7).trans (((dats m hH 0 c).arrAt_in 7 rfl _).trans ((A_eq m hH c 7).trans (V_main_arg4 m c))),
    ((h c).2 main_arg5 (Pipeline.mem_restRefs_of main_arg5 (by decide) (by decide))).trans (V_main_arg5 m c),
    ((h c).1 9).trans (((dats m hH 0 c).arrAt_in 9 rfl _).trans ((A_eq m hH c 9).trans (V_main_arg6 m c))),
    ((h c).1 10).trans (((dats m hH 0 c).arrAt_in 10 rfl _).trans ((A_eq m hH c 10).trans (V_main_arg7 m c))),
    ((h c).2 main_arg8 (Pipeline.mem_restRefs_of main_arg8 (by decide) (by decide))).trans (V_main_arg8 m c),
    ((h c).1 12).trans (((dats m hH 0 c).arrAt_in 12 rfl _).trans ((A_eq m hH c 12).trans (V_main_arg9 m c))),
    ((h c).1 1).trans (((dats m hH 0 c).arrAt_in 1 rfl _).trans ((A_eq m hH c 1).trans (V_main_arg10 m c)))⟩) (run_main m g hH)

end Kernel

section Reference

open Cert.ReferenceIdeal Cert.ReferenceIdeal.Gen Cert.ReferenceIdeal.Value

/-- So does the reference. -/
theorem reference_results (m : (ℓ : Loc nD τ sig) → Buf (Elt Ideal) ℓ) (g : Dev nD → PrngReg) (hw : ∀ c, Val.Names (launchContents m c)) :
    θ_run (defs (F := Ideal)) (onTc (τ := τ) (main (F := Ideal))) ⟨m, fun _ => 0, g⟩ (fun r => ∀ c : Dev nD,
      r.2.mem ((c.tc : Thread nD τ).loc main_v337) = outArr (Val.args (launchContents m c))
      ∧ r.2.mem ((c.tc : Thread nD τ).loc main_v180) = hArr (Val.args (launchContents m c))
      ∧ r.2.mem ((c.tc : Thread nD τ).loc main_v158) = sArr (Val.args (launchContents m c))
      ∧ r.2.mem ((c.tc : Thread nD τ).loc main_v329) = tArr (Val.args (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => by
    obtain ⟨h0, h1, h2, h3, hr⟩ := h c
    refine ⟨h0.trans (funext fun j => ?_), h1.trans (funext fun j => ?_), h2.trans (funext fun j => ?_), h3.trans (funext fun j => ?_), hr⟩
    · idx_vars j
      exact Val.out_apply (hw c) j0 j1
    · idx_vars j
      exact Val.h_apply (hw c) j0 j1
    · idx_vars j
      exact Val.s_apply (hw c) j0 j1
    · idx_vars j
      exact Val.t_apply (hw c) _ (Val.h_apply (hw c)) j0 j1) (run m g)

end Reference

/-- At equal arguments the two programs run over the same numbers. -/
theorem args_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (e0 : V0 (Proc.devRef .tc Cert.ReferenceIdeal.main_arg0) = m ((c.tc : Thread Cert.KernelIdeal.nD Cert.KernelIdeal.τ).loc Cert.KernelIdeal.main_arg0))
    (e1 : V0 (Proc.devRef .tc Cert.ReferenceIdeal.main_arg1) = m ((c.tc : Thread Cert.KernelIdeal.nD Cert.KernelIdeal.τ).loc Cert.KernelIdeal.main_arg1))
    (e2 : V0 (Proc.devRef .tc Cert.ReferenceIdeal.main_arg2) = m ((c.tc : Thread Cert.KernelIdeal.nD Cert.KernelIdeal.τ).loc Cert.KernelIdeal.main_arg2))
    (e3 : V0 (Proc.devRef .tc Cert.ReferenceIdeal.main_arg3) = m ((c.tc : Thread Cert.KernelIdeal.nD Cert.KernelIdeal.τ).loc Cert.KernelIdeal.main_arg3))
    (e4 : V0 (Proc.devRef .tc Cert.ReferenceIdeal.main_arg4) = m ((c.tc : Thread Cert.KernelIdeal.nD Cert.KernelIdeal.τ).loc Cert.KernelIdeal.main_arg4))
    (e5 : V0 (Proc.devRef .tc Cert.ReferenceIdeal.main_arg5) = m ((c.tc : Thread Cert.KernelIdeal.nD Cert.KernelIdeal.τ).loc Cert.KernelIdeal.main_arg5))
    (e6 : V0 (Proc.devRef .tc Cert.ReferenceIdeal.main_arg6) = m ((c.tc : Thread Cert.KernelIdeal.nD Cert.KernelIdeal.τ).loc Cert.KernelIdeal.main_arg6))
    (e7 : V0 (Proc.devRef .tc Cert.ReferenceIdeal.main_arg7) = m ((c.tc : Thread Cert.KernelIdeal.nD Cert.KernelIdeal.τ).loc Cert.KernelIdeal.main_arg7))
    (e8 : V0 (Proc.devRef .tc Cert.ReferenceIdeal.main_arg8) = m ((c.tc : Thread Cert.KernelIdeal.nD Cert.KernelIdeal.τ).loc Cert.KernelIdeal.main_arg8))
    (e9 : V0 (Proc.devRef .tc Cert.ReferenceIdeal.main_arg9) = m ((c.tc : Thread Cert.KernelIdeal.nD Cert.KernelIdeal.τ).loc Cert.KernelIdeal.main_arg9))
    (e10 : V0 (Proc.devRef .tc Cert.ReferenceIdeal.main_arg10) = m ((c.tc : Thread Cert.KernelIdeal.nD Cert.KernelIdeal.τ).loc Cert.KernelIdeal.main_arg10)) :
    Cert.ReferenceIdeal.Val.args V0 = Cert.KernelIdeal.Val.args m c := by
  unfold Cert.ReferenceIdeal.Val.args Cert.KernelIdeal.Val.args
  rw [Cert.Spec.Args.mk.injEq]
  refine ⟨?_, ?_, ?_, ?_, ?_, ?_, ?_, ?_, ?_, ?_, ?_⟩
  · funext a d; exact congrFun e0 _
  · funext a; exact Fin.ext (congrArg (fun w : BitVec 32 => w.toNat % 5) (congrFun e1 _))
  · funext k j; exact congrFun e2 _
  · funext k j; exact congrFun e3 _
  · funext k d; exact congrFun e4 _
  · funext k d; exact congrFun e5 _
  · funext n d l; exact congrFun e6 _
  · funext n e r f; exact congrFun e7 _
  · funext n f r; exact congrFun e8 _
  · funext n r d; exact congrFun e9 _
  · funext n; exact congrFun e10 _

/-- The four results agree. -/
theorem algebraic : Cert.algebraic_KernelIdeal_ReferenceIdeal := by
  intro m g m' g' hp he
  have hw : ∀ c, Cert.KernelIdeal.Val.Names m c := fun c a => word_lt (hp c) (ix1 a)
  have hH := Cert.KernelIdeal.Body.hyps_of_words m fun c => word_lt (hp c)
  have ha : ∀ c, Cert.ReferenceIdeal.Val.args (launchContents m' c) = Cert.KernelIdeal.Val.args m c := fun c => by
    obtain ⟨e0, e1, e2, e3, e4, e5, e6, e7, e8, e9, e10⟩ := he c
    exact args_eq m _ c e0 e1 e2 e3 e4 e5 e6 e7 e8 e9 e10
  have hw' : ∀ c, Cert.ReferenceIdeal.Val.Names (launchContents m' c) := fun c a => by
    obtain ⟨_, e1, _⟩ := he c
    refine lt_of_eq_of_lt (congrArg BitVec.toNat ?_) (hw c a)
    exact congrFun e1 _
  refine ⟨fun c => outArr (Cert.KernelIdeal.Val.args m c), fun c => hArr (Cert.KernelIdeal.Val.args m c),
    fun c => sArr (Cert.KernelIdeal.Val.args m c), fun c => tArr (Cert.KernelIdeal.Val.args m c), ?_, ?_⟩
  · exact kernel_results m g hw hH
  · refine (θ_run Cert.ReferenceIdeal.defs _ _).mono (fun r h c => ?_) (reference_results m' g' hw')
    have := h c
    rw [ha c] at this
    exact this

end Cert.Proof.Results

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_adapters_exist
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_adapters_exist.Facts := Cert.Pre_adapters_exist.Gen.facts

/-- The reference ends with its arguments unchanged and every counter at zero, whatever the adapter words are. -/
theorem frame_reference : Cert.quiescent_ReferenceIdeal := fun m g _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

/-- The reference again, under the kernel's precondition. -/
theorem frame_reference_pre : Cert.quiescent_ReferenceIdeal_pre_adapters_exist := fun m g _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, Cert.Pre_adapters_exist.Gen.facts,
  frame_kernel, frame_ideal, frame_reference, frame_reference_pre, trivial, Results.algebraic⟩

end Cert.Proof

end
